-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4)
      ∧ r.2.mem ((c.tc : Thread Cert.Glu.nD Cert.Glu.τ).loc Cert.Glu.main_arg5) = m ((c.tc : Thread Cert.Glu.nD Cert.Glu.τ).loc Cert.Glu.main_arg5)
      ∧ r.2.mem ((c.tc : Thread Cert.Glu.nD Cert.Glu.τ).loc Cert.Glu.main_arg6) = m ((c.tc : Thread Cert.Glu.nD Cert.Glu.τ).loc Cert.Glu.main_arg6)
      ∧ r.2.mem ((c.tc : Thread Cert.Glu.nD Cert.Glu.τ).loc Cert.Glu.main_arg7) = m ((c.tc : Thread Cert.Glu.nD Cert.Glu.τ).loc Cert.Glu.main_arg7)
      ∧ r.2.mem ((c.tc : Thread Cert.Glu.nD Cert.Glu.τ).loc Cert.Glu.main_arg8) = m ((c.tc : Thread Cert.Glu.nD Cert.Glu.τ).loc Cert.Glu.main_arg8))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
      ∧ r.2.mem ((c.tc : Thread Cert.GluIdeal.nD Cert.GluIdeal.τ).loc Cert.GluIdeal.main_arg5) = m ((c.tc : Thread Cert.GluIdeal.nD Cert.GluIdeal.τ).loc Cert.GluIdeal.main_arg5)
      ∧ r.2.mem ((c.tc : Thread Cert.GluIdeal.nD Cert.GluIdeal.τ).loc Cert.GluIdeal.main_arg6) = m ((c.tc : Thread Cert.GluIdeal.nD Cert.GluIdeal.τ).loc Cert.GluIdeal.main_arg6)
      ∧ r.2.mem ((c.tc : Thread Cert.GluIdeal.nD Cert.GluIdeal.τ).loc Cert.GluIdeal.main_arg7) = m ((c.tc : Thread Cert.GluIdeal.nD Cert.GluIdeal.τ).loc Cert.GluIdeal.main_arg7)
      ∧ r.2.mem ((c.tc : Thread Cert.GluIdeal.nD Cert.GluIdeal.τ).loc Cert.GluIdeal.main_arg8) = m ((c.tc : Thread Cert.GluIdeal.nD Cert.GluIdeal.τ).loc Cert.GluIdeal.main_arg8))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4)
      ∧ r.2.mem ((c.tc : Thread Cert.GluReferenceIdeal.nD Cert.GluReferenceIdeal.τ).loc Cert.GluReferenceIdeal.main_arg5) = m ((c.tc : Thread Cert.GluReferenceIdeal.nD Cert.GluReferenceIdeal.τ).loc Cert.GluReferenceIdeal.main_arg5)
      ∧ r.2.mem ((c.tc : Thread Cert.GluReferenceIdeal.nD Cert.GluReferenceIdeal.τ).loc Cert.GluReferenceIdeal.main_arg6) = m ((c.tc : Thread Cert.GluReferenceIdeal.nD Cert.GluReferenceIdeal.τ).loc Cert.GluReferenceIdeal.main_arg6)
      ∧ r.2.mem ((c.tc : Thread Cert.GluReferenceIdeal.nD Cert.GluReferenceIdeal.τ).loc Cert.GluReferenceIdeal.main_arg7) = m ((c.tc : Thread Cert.GluReferenceIdeal.nD Cert.GluReferenceIdeal.τ).loc Cert.GluReferenceIdeal.main_arg7)
      ∧ r.2.mem ((c.tc : Thread Cert.GluReferenceIdeal.nD Cert.GluReferenceIdeal.τ).loc Cert.GluReferenceIdeal.main_arg8) = m ((c.tc : Thread Cert.GluReferenceIdeal.nD Cert.GluReferenceIdeal.τ).loc Cert.GluReferenceIdeal.main_arg8))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def preserves_Mlp_MlpIdeal : Prop :=
  True

def preserves_Qkv_QkvIdeal : Prop :=
  IdealRules.named_const.Statement Cert.QkvIdeal.κ "attn" .f32 0x3E0293EE#32 (((Real.log 2)⁻¹ * (Real.sqrt 128)⁻¹ : ℝ) : EReal)

def preserves_Proj_ProjIdeal : Prop :=
  True

def preserves_Out_OutIdeal : Prop :=
  True

def preserves_Glu_GluIdeal : Prop :=
  True

def preserves_Final_FinalIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)) (v2 : (c : Dev Cert.KernelIdeal.nD) → Buf (Elt Ideal) ((c.tc : Thread Cert.KernelIdeal.nD Cert.KernelIdeal.τ).loc Cert.KernelIdeal.main_v64_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_v64_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v124) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v9) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v26) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2))

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v15) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_v18) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)
      ∧ m' ((c.tc : Thread Cert.GluReferenceIdeal.nD Cert.GluReferenceIdeal.τ).loc Cert.GluReferenceIdeal.main_arg3) = m ((c.tc : Thread Cert.GluIdeal.nD Cert.GluIdeal.τ).loc Cert.GluIdeal.main_arg3)
      ∧ m' ((c.tc : Thread Cert.GluReferenceIdeal.nD Cert.GluReferenceIdeal.τ).loc Cert.GluReferenceIdeal.main_arg4) = m ((c.tc : Thread Cert.GluIdeal.nD Cert.GluIdeal.τ).loc Cert.GluIdeal.main_arg4)
      ∧ m' ((c.tc : Thread Cert.GluReferenceIdeal.nD Cert.GluReferenceIdeal.τ).loc Cert.GluReferenceIdeal.main_arg5) = m ((c.tc : Thread Cert.GluIdeal.nD Cert.GluIdeal.τ).loc Cert.GluIdeal.main_arg5)
      ∧ m' ((c.tc : Thread Cert.GluReferenceIdeal.nD Cert.GluReferenceIdeal.τ).loc Cert.GluReferenceIdeal.main_arg6) = m ((c.tc : Thread Cert.GluIdeal.nD Cert.GluIdeal.τ).loc Cert.GluIdeal.main_arg6)
      ∧ m' ((c.tc : Thread Cert.GluReferenceIdeal.nD Cert.GluReferenceIdeal.τ).loc Cert.GluReferenceIdeal.main_arg7) = m ((c.tc : Thread Cert.GluIdeal.nD Cert.GluIdeal.τ).loc Cert.GluIdeal.main_arg7)
      ∧ m' ((c.tc : Thread Cert.GluReferenceIdeal.nD Cert.GluReferenceIdeal.τ).loc Cert.GluReferenceIdeal.main_arg8) = m ((c.tc : Thread Cert.GluIdeal.nD Cert.GluIdeal.τ).loc Cert.GluIdeal.main_arg8)) →
    ∃ (v0 : (c : Dev Cert.GluIdeal.nD) → Buf (Elt Ideal) ((c.tc : Thread Cert.GluIdeal.nD Cert.GluIdeal.τ).loc Cert.GluIdeal.main_v2_0)) (v1 : (c : Dev Cert.GluIdeal.nD) → Buf (Elt Ideal) ((c.tc : Thread Cert.GluIdeal.nD Cert.GluIdeal.τ).loc Cert.GluIdeal.main_v2_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2_0) = v0 c
          ∧ r.2.mem ((c.tc : Thread Cert.GluIdeal.nD Cert.GluIdeal.τ).loc Cert.GluIdeal.main_v2_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
          ∧ r.2.mem ((c.tc : Thread Cert.GluIdeal.nD Cert.GluIdeal.τ).loc Cert.GluIdeal.main_arg5) = m ((c.tc : Thread Cert.GluIdeal.nD Cert.GluIdeal.τ).loc Cert.GluIdeal.main_arg5)
          ∧ r.2.mem ((c.tc : Thread Cert.GluIdeal.nD Cert.GluIdeal.τ).loc Cert.GluIdeal.main_arg6) = m ((c.tc : Thread Cert.GluIdeal.nD Cert.GluIdeal.τ).loc Cert.GluIdeal.main_arg6)
          ∧ r.2.mem ((c.tc : Thread Cert.GluIdeal.nD Cert.GluIdeal.τ).loc Cert.GluIdeal.main_arg7) = m ((c.tc : Thread Cert.GluIdeal.nD Cert.GluIdeal.τ).loc Cert.GluIdeal.main_arg7)
          ∧ r.2.mem ((c.tc : Thread Cert.GluIdeal.nD Cert.GluIdeal.τ).loc Cert.GluIdeal.main_arg8) = m ((c.tc : Thread Cert.GluIdeal.nD Cert.GluIdeal.τ).loc Cert.GluIdeal.main_arg8))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v35) = v0 c
          ∧ r.2.mem ((c.tc : Thread Cert.GluReferenceIdeal.nD Cert.GluReferenceIdeal.τ).loc Cert.GluReferenceIdeal.main_v49) = v1 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4)
          ∧ r.2.mem ((c.tc : Thread Cert.GluReferenceIdeal.nD Cert.GluReferenceIdeal.τ).loc Cert.GluReferenceIdeal.main_arg5) = m' ((c.tc : Thread Cert.GluReferenceIdeal.nD Cert.GluReferenceIdeal.τ).loc Cert.GluReferenceIdeal.main_arg5)
          ∧ r.2.mem ((c.tc : Thread Cert.GluReferenceIdeal.nD Cert.GluReferenceIdeal.τ).loc Cert.GluReferenceIdeal.main_arg6) = m' ((c.tc : Thread Cert.GluReferenceIdeal.nD Cert.GluReferenceIdeal.τ).loc Cert.GluReferenceIdeal.main_arg6)
          ∧ r.2.mem ((c.tc : Thread Cert.GluReferenceIdeal.nD Cert.GluReferenceIdeal.τ).loc Cert.GluReferenceIdeal.main_arg7) = m' ((c.tc : Thread Cert.GluReferenceIdeal.nD Cert.GluReferenceIdeal.τ).loc Cert.GluReferenceIdeal.main_arg7)
          ∧ r.2.mem ((c.tc : Thread Cert.GluReferenceIdeal.nD Cert.GluReferenceIdeal.τ).loc Cert.GluReferenceIdeal.main_arg8) = m' ((c.tc : Thread Cert.GluReferenceIdeal.nD Cert.GluReferenceIdeal.τ).loc Cert.GluReferenceIdeal.main_arg8))

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v12) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1))

def Claim : Prop :=
  ∃ (hKernel : Cert.Kernel.Facts) (hKernelIdeal : Cert.KernelIdeal.Facts) (hMlp : Cert.Mlp.Facts) (hMlpIdeal : Cert.MlpIdeal.Facts) (hQkv : Cert.Qkv.Facts) (hQkvIdeal : Cert.QkvIdeal.Facts) (hProj : Cert.Proj.Facts) (hProjIdeal : Cert.ProjIdeal.Facts) (hOut : Cert.Out.Facts) (hOutIdeal : Cert.OutIdeal.Facts) (hGlu : Cert.Glu.Facts) (hGluIdeal : Cert.GluIdeal.Facts) (hFinal : Cert.Final.Facts) (hFinalIdeal : Cert.FinalIdeal.Facts) (hReferenceIdeal : Cert.ReferenceIdeal.Facts) (hMlpReferenceIdeal : Cert.MlpReferenceIdeal.Facts) (hQkvReferenceIdeal : Cert.QkvReferenceIdeal.Facts) (hProjReferenceIdeal : Cert.ProjReferenceIdeal.Facts) (hOutReferenceIdeal : Cert.OutReferenceIdeal.Facts) (hGluReferenceIdeal : Cert.GluReferenceIdeal.Facts) (hFinalReferenceIdeal : Cert.FinalReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_Mlp (hMlp := hMlp)
    ∧ quiescent_MlpIdeal (hMlpIdeal := hMlpIdeal)
    ∧ quiescent_Qkv (hQkv := hQkv)
    ∧ quiescent_QkvIdeal (hQkvIdeal := hQkvIdeal)
    ∧ quiescent_Proj (hProj := hProj)
    ∧ quiescent_ProjIdeal (hProjIdeal := hProjIdeal)
    ∧ quiescent_Out (hOut := hOut)
    ∧ quiescent_OutIdeal (hOutIdeal := hOutIdeal)
    ∧ quiescent_Glu (hGlu := hGlu)
    ∧ quiescent_GluIdeal (hGluIdeal := hGluIdeal)
    ∧ quiescent_Final (hFinal := hFinal)
    ∧ quiescent_FinalIdeal (hFinalIdeal := hFinalIdeal)
    ∧ quiescent_ReferenceIdeal (hReferenceIdeal := hReferenceIdeal)
    ∧ quiescent_ReferenceIdeal_pre_finite_scores (hReferenceIdeal := hReferenceIdeal) (hPre_finite_scores := hPre_finite_scores)
    ∧ quiescent_MlpReferenceIdeal (hMlpReferenceIdeal := hMlpReferenceIdeal)
    ∧ quiescent_QkvReferenceIdeal (hQkvReferenceIdeal := hQkvReferenceIdeal)
    ∧ quiescent_ProjReferenceIdeal (hProjReferenceIdeal := hProjReferenceIdeal)
    ∧ quiescent_OutReferenceIdeal (hOutReferenceIdeal := hOutReferenceIdeal)
    ∧ quiescent_GluReferenceIdeal (hGluReferenceIdeal := hGluReferenceIdeal)
    ∧ quiescent_FinalReferenceIdeal (hFinalReferenceIdeal := hFinalReferenceIdeal)
    ∧ preserves_Kernel_KernelIdeal
    ∧ preserves_Mlp_MlpIdeal
    ∧ preserves_Qkv_QkvIdeal
    ∧ preserves_Proj_ProjIdeal
    ∧ preserves_Out_OutIdeal
    ∧ preserves_Glu_GluIdeal
    ∧ preserves_Final_FinalIdeal
    ∧ algebraic_KernelIdeal_ReferenceIdeal_pre_finite_scores (hKernelIdeal := hKernelIdeal) (hReferenceIdeal := hReferenceIdeal) (hPre_finite_scores := hPre_finite_scores)
    ∧ algebraic_MlpIdeal_MlpReferenceIdeal (hMlpIdeal := hMlpIdeal) (hMlpReferenceIdeal := hMlpReferenceIdeal)
    ∧ algebraic_QkvIdeal_QkvReferenceIdeal (hQkvIdeal := hQkvIdeal) (hQkvReferenceIdeal := hQkvReferenceIdeal)
    ∧ algebraic_ProjIdeal_ProjReferenceIdeal (hProjIdeal := hProjIdeal) (hProjReferenceIdeal := hProjReferenceIdeal)
    ∧ algebraic_OutIdeal_OutReferenceIdeal (hOutIdeal := hOutIdeal) (hOutReferenceIdeal := hOutReferenceIdeal)
    ∧ algebraic_GluIdeal_GluReferenceIdeal (hGluIdeal := hGluIdeal) (hGluReferenceIdeal := hGluReferenceIdeal)
    ∧ algebraic_FinalIdeal_FinalReferenceIdeal (hFinalIdeal := hFinalIdeal) (hFinalReferenceIdeal := hFinalReferenceIdeal)
-- ==== Pre_finite_scores.lean ====
abbrev S8192x6144 : Shape := ⟨2, ![8192, 6144]⟩
abbrev S16x15x31 : Shape := ⟨3, ![16, 15, 31]⟩
abbrev S4x2048x8192 : Shape := ⟨3, ![4, 2048, 8192]⟩
abbrev S4x8192x2048 : Shape := ⟨3, ![4, 8192, 2048]⟩
abbrev S8192x4096 : Shape := ⟨2, ![8192, 4096]⟩
abbrev S_ : Shape := ⟨0, ![]⟩

class Facts : Prop where
  slices_S8192x6144_S8192x4096_0_0 : S8192x6144.Slices ![0, 0] S8192x4096
  bitsLt_bf16_f32 : FTy.bits .bf16 < FTy.bits .f32
  bcast_S_S8192x4096 : S_.BroadcastsInDim S8192x4096 (![] : Fin 0 → Fin S8192x4096.rank)
  bcast_S_S16x15x31 : S_.BroadcastsInDim S16x15x31 (![] : Fin 0 → Fin S16x15x31.rank)

variable [Facts]

def fn {F : FTy → Type} [FloatOps F] (main_arg0 : FVec F S8192x6144 .bf16) (main_arg1 : FVec F S16x15x31 .f32) (main_arg2 : FVec F S4x2048x8192 .f32) (main_arg3 : FVec F S4x8192x2048 .f32) : IVec S8192x4096 1 × IVec S16x15x31 1 :=
  let main_v0 : FVec F S8192x4096 .bf16 := (extractStridedSlice S8192x4096 ![0, 0] · slices_S8192x6144_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_v5 : FVec F S16x15x31 .f32 := Host.absf main_arg1
  let main_cst_0 : FVec F S_ .f32 := constant S_ .f32 0x7F800000#32
  let main_v6 : FVec F S16x15x31 .f32 := broadcastInDim S16x15x31 ![] bcast_S_S16x15x31 main_cst_0
  let main_v7 : IVec S16x15x31 1 := cmpf .olt main_v5 main_v6
  (main_v4, main_v7)
-- ==== Kernel.lean ====
abbrev S8192x6144 : Shape := ⟨2, ![8192, 6144]⟩
abbrev S16x15x31 : Shape := ⟨3, ![16, 15, 31]⟩
abbrev S4x2048x8192 : Shape := ⟨3, ![4, 2048, 8192]⟩
abbrev S4x8192x2048 : Shape := ⟨3, ![4, 8192, 2048]⟩
abbrev S4x64x12x64 : Shape := ⟨4, ![4, 64, 12, 64]⟩
abbrev S_ : Shape := ⟨0, ![]⟩
abbrev S256x768 : Shape := ⟨2, ![256, 768]⟩
abbrev S1x256x768 : Shape := ⟨3, ![1, 256, 768]⟩
abbrev S3x256x768 : Shape := ⟨3, ![3, 256, 768]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S16x15x64x64 : Shape := ⟨4, ![16, 15, 64, 64]⟩
abbrev S16x23x64x64 : Shape := ⟨4, ![16, 23, 64, 64]⟩
abbrev S16x22x64x64 : Shape := ⟨4, ![16, 22, 64, 64]⟩
abbrev S16x22x64x128 : Shape := ⟨4, ![16, 22, 64, 128]⟩
abbrev S8192x2048 : Shape := ⟨2, ![8192, 2048]⟩
abbrev S1x2048x8192 : Shape := ⟨3, ![1, 2048, 8192]⟩
abbrev S1x8192x2048 : Shape := ⟨3, ![1, 8192, 2048]⟩
abbrev S2048x256 : Shape := ⟨2, ![2048, 256]⟩
abbrev S8192x256 : Shape := ⟨2, ![8192, 256]⟩
abbrev S2x22x64x128 : Shape := ⟨4, ![2, 22, 64, 128]⟩
abbrev S1x64x8192 : Shape := ⟨3, ![1, 64, 8192]⟩
abbrev S1x256x2048 : Shape := ⟨3, ![1, 256, 2048]⟩
abbrev S2x3x256x768 : Shape := ⟨4, ![2, 3, 256, 768]⟩
abbrev S4x256x768 : Shape := ⟨3, ![4, 256, 768]⟩
abbrev S4x256x128 : Shape := ⟨3, ![4, 256, 128]⟩
abbrev S64x8192 : Shape := ⟨2, ![64, 8192]⟩
abbrev S256x2048 : Shape := ⟨2, ![256, 2048]⟩
abbrev S1x1x64x128 : Shape := ⟨4, ![1, 1, 64, 128]⟩
abbrev S64x128 : Shape := ⟨2, ![64, 128]⟩
abbrev S1x64x128 : Shape := ⟨3, ![1, 64, 128]⟩
abbrev S256x128 : Shape := ⟨2, ![256, 128]⟩
abbrev S768x128 : Shape := ⟨2, ![768, 128]⟩
abbrev S1x1x256x768 : Shape := ⟨4, ![1, 1, 256, 768]⟩
abbrev S256 : Shape := ⟨1, ![256]⟩
abbrev S256x1 : Shape := ⟨2, ![256, 1]⟩
abbrev S1x256x128 : Shape := ⟨3, ![1, 256, 128]⟩

abbrev nBuf : Space → Nat
  | .hbm => 108
  | .vmem => 23
  | .smem => 0
  | _ => 0

abbrev bufTy : (tb : Table) → Fin (tcTables nBuf tb) → BufTy
  | .hbm, ⟨0, _⟩ => ⟨S8192x6144, .bf16⟩
  | .hbm, ⟨1, _⟩ => ⟨S16x15x31, .f32⟩
  | .hbm, ⟨2, _⟩ => ⟨S4x2048x8192, .f32⟩
  | .hbm, ⟨3, _⟩ => ⟨S4x8192x2048, .f32⟩
  | .hbm, ⟨4, _⟩ => ⟨S4x64x12x64, .i32⟩
  | .hbm, ⟨5, _⟩ => ⟨S4x64x12x64, .i32⟩
  | .hbm, ⟨6, _⟩ => ⟨S4x64x12x64, .i32⟩
  | .hbm, ⟨7, _⟩ => ⟨S4x64x12x64, .i32⟩
  | .hbm, ⟨8, _⟩ => ⟨S_, .i32⟩
  | .hbm, ⟨9, _⟩ => ⟨S4x64x12x64, .i32⟩
  | .hbm, ⟨10, _⟩ => ⟨S4x64x12x64, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4x64x12x64, .i32⟩
  | .hbm, ⟨15, _⟩ => ⟨S4x64x12x64, .i32⟩
  | .hbm, ⟨16, _⟩ => ⟨S_, .i32⟩
  | .hbm, ⟨17, _⟩ => ⟨S4x64x12x64, .i32⟩
  | .hbm, ⟨18, _⟩ => ⟨S4x64x12x64, .i32⟩
  | .hbm, ⟨19, _⟩ => ⟨S4x64x12x64, .i1⟩
  | .hbm, ⟨20, _⟩ => ⟨S_, .i32⟩
  | .hbm, ⟨21, _⟩ => ⟨S4x64x12x64, .i32⟩
  | .hbm, ⟨22, _⟩ => ⟨S4x64x12x64, .i32⟩
  | .hbm, ⟨23, _⟩ => ⟨S4x64x12x64, .i1⟩
  | .hbm, ⟨24, _⟩ => ⟨S4x64x12x64, .i1⟩
  | .hbm, ⟨25, _⟩ => ⟨S_, .i32⟩
  | .hbm, ⟨26, _⟩ => ⟨S4x64x12x64, .i32⟩
  | .hbm, ⟨27, _⟩ => ⟨S4x64x12x64, .i1⟩
  | .hbm, ⟨28, _⟩ => ⟨S_, .i32⟩
  | .hbm, ⟨29, _⟩ => ⟨S4x64x12x64, .i32⟩
  | .hbm, ⟨30, _⟩ => ⟨S4x64x12x64, .i1⟩
  | .hbm, ⟨31, _⟩ => ⟨S4x64x12x64, .i1⟩
  | .hbm, ⟨32, _⟩ => ⟨S4x64x12x64, .i1⟩
  | .hbm, ⟨33, _⟩ => ⟨S_, .i32⟩
  | .hbm, ⟨34, _⟩ => ⟨S4x64x12x64, .i32⟩
  | .hbm, ⟨35, _⟩ => ⟨S4x64x12x64, .i32⟩
  | .hbm, ⟨36, _⟩ => ⟨S4x64x12x64, .i1⟩
  | .hbm, ⟨37, _⟩ => ⟨S4x64x12x64, .i1⟩
  | .hbm, ⟨38, _⟩ => ⟨S_, .i32⟩
  | .hbm, ⟨39, _⟩ => ⟨S4x64x12x64, .i32⟩
  | .hbm, ⟨40, _⟩ => ⟨S4x64x12x64, .i1⟩
  | .hbm, ⟨41, _⟩ => ⟨S_, .i32⟩
  | .hbm, ⟨42, _⟩ => ⟨S4x64x12x64, .i32⟩
  | .hbm, ⟨43, _⟩ => ⟨S4x64x12x64, .i1⟩
  | .hbm, ⟨44, _⟩ => ⟨S4x64x12x64, .i1⟩
  | .hbm, ⟨45, _⟩ => ⟨S4x64x12x64, .i1⟩
  | .hbm, ⟨46, _⟩ => ⟨S_, .f32⟩
  | .hbm, ⟨47, _⟩ => ⟨S_, .f32⟩
  | .hbm, ⟨48, _⟩ => ⟨S4x64x12x64, .f32⟩
  | .hbm, ⟨49, _⟩ => ⟨S4x64x12x64, .f32⟩
  | .hbm, ⟨50, _⟩ => ⟨S4x64x12x64, .f32⟩
  | .hbm, ⟨51, _⟩ => ⟨S256x768, .f32⟩
  | .hbm, ⟨52, _⟩ => ⟨S4x64x12x64, .i1⟩
  | .hbm, ⟨53, _⟩ => ⟨S_, .f32⟩
  | .hbm, ⟨54, _⟩ => ⟨S_, .f32⟩
  | .hbm, ⟨55, _⟩ => ⟨S4x64x12x64, .f32⟩
  | .hbm, ⟨56, _⟩ => ⟨S4x64x12x64, .f32⟩
  | .hbm, ⟨57, _⟩ => ⟨S4x64x12x64, .f32⟩
  | .hbm, ⟨58, _⟩ => ⟨S256x768, .f32⟩
  | .hbm, ⟨59, _⟩ => ⟨S4x64x12x64, .i1⟩
  | .hbm, ⟨60, _⟩ => ⟨S_, .f32⟩
  | .hbm, ⟨61, _⟩ => ⟨S_, .f32⟩
  | .hbm, ⟨62, _⟩ => ⟨S4x64x12x64, .f32⟩
  | .hbm, ⟨63, _⟩ => ⟨S4x64x12x64, .f32⟩
  | .hbm, ⟨64, _⟩ => ⟨S4x64x12x64, .f32⟩
  | .hbm, ⟨65, _⟩ => ⟨S256x768, .f32⟩
  | .hbm, ⟨66, _⟩ => ⟨S1x256x768, .f32⟩
  | .hbm, ⟨67, _⟩ => ⟨S1x256x768, .f32⟩
  | .hbm, ⟨68, _⟩ => ⟨S1x256x768, .f32⟩
  | .hbm, ⟨69, _⟩ => ⟨S3x256x768, .f32⟩
  | .hbm, ⟨70, _⟩ => ⟨S3x256x768, .f32⟩
  | .hbm, ⟨71, _⟩ => ⟨S64, .i32⟩
  | .hbm, ⟨72, _⟩ => ⟨S1x64, .i32⟩
  | .hbm, ⟨73, _⟩ => ⟨S64x1, .i32⟩
  | .hbm, ⟨74, _⟩ => ⟨S64x64, .i32⟩
  | .hbm, ⟨75, _⟩ => ⟨S64x64, .i32⟩
  | .hbm, ⟨76, _⟩ => ⟨S64x64, .i32⟩
  | .hbm, ⟨77, _⟩ => ⟨S_, .i32⟩
  | .hbm, ⟨78, _⟩ => ⟨S64x64, .i32⟩
  | .hbm, ⟨79, _⟩ => ⟨S64x64, .i32⟩
  | .hbm, ⟨80, _⟩ => ⟨S_, .i32⟩
  | .hbm, ⟨81, _⟩ => ⟨S64x64, .i32⟩
  | .hbm, ⟨82, _⟩ => ⟨S64x64, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S64x64, .i32⟩
  | .hbm, ⟨87, _⟩ => ⟨S64x64, .i32⟩
  | .hbm, ⟨88, _⟩ => ⟨S_, .i32⟩
  | .hbm, ⟨89, _⟩ => ⟨S64x64, .i32⟩
  | .hbm, ⟨90, _⟩ => ⟨S64x64, .i32⟩
  | .hbm, ⟨91, _⟩ => ⟨S1x64x64, .i32⟩
  | .hbm, ⟨92, _⟩ => ⟨S31, .i32⟩
  | .hbm, ⟨93, _⟩ => ⟨S31x1x1, .i32⟩
  | .hbm, ⟨94, _⟩ => ⟨S31x64x64, .i32⟩
  | .hbm, ⟨95, _⟩ => ⟨S31x64x64, .i32⟩
  | .hbm, ⟨96, _⟩ => ⟨S31x64x64, .i1⟩
  | .hbm, ⟨97, _⟩ => ⟨S31x64x64, .f32⟩
  | .hbm, ⟨98, _⟩ => ⟨S16x15x64x64, .f32⟩
  | .hbm, ⟨99, _⟩ => ⟨S_, .i32⟩
  | .hbm, ⟨100, _⟩ => ⟨S_, .f32⟩
  | .hbm, ⟨101, _⟩ => ⟨S16x23x64x64, .f32⟩
  | .hbm, ⟨102, _⟩ => ⟨S16x22x64x64, .f32⟩
  | .hbm, ⟨103, _⟩ => ⟨S16x22x64x64, .f32⟩
  | .hbm, ⟨104, _⟩ => ⟨S16x22x64x128, .f32⟩
  | .hbm, ⟨105, _⟩ => ⟨S8192x2048, .bf16⟩
  | .hbm, ⟨106, _⟩ => ⟨S1x2048x8192, .bf16⟩
  | .hbm, ⟨107, _⟩ => ⟨S1x8192x2048, .bf16⟩
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S2x22x64x128, .f32⟩
  | .local _ .vmem, ⟨7, _⟩ => ⟨S2x22x64x128, .f32⟩
  | .local _ .vmem, ⟨8, _⟩ => ⟨S3x256x768, .f32⟩
  | .local _ .vmem, ⟨9, _⟩ => ⟨S1x64x8192, .f32⟩
  | .local _ .vmem, ⟨10, _⟩ => ⟨S1x64x8192, .f32⟩
  | .local _ .vmem, ⟨11, _⟩ => ⟨S1x256x2048, .f32⟩
  | .local _ .vmem, ⟨12, _⟩ => ⟨S1x256x2048, .f32⟩
  | .local _ .vmem, ⟨13, _⟩ => ⟨S2048x256, .bf16⟩
  | .local _ .vmem, ⟨14, _⟩ => ⟨S2048x256, .bf16⟩
  | .local _ .vmem, ⟨15, _⟩ => ⟨S1x64x8192, .bf16⟩
  | .local _ .vmem, ⟨16, _⟩ => ⟨S1x64x8192, .bf16⟩
  | .local _ .vmem, ⟨17, _⟩ => ⟨S1x256x2048, .bf16⟩
  | .local _ .vmem, ⟨18, _⟩ => ⟨S1x256x2048, .bf16⟩
  | .local _ .vmem, ⟨19, _⟩ => ⟨S2x3x256x768, .f32⟩
  | .local _ .vmem, ⟨20, _⟩ => ⟨S4x256x768, .f32⟩
  | .local _ .vmem, ⟨21, _⟩ => ⟨S4x256x768, .bf16⟩
  | .local _ .vmem, ⟨22, _⟩ => ⟨S4x256x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_9 : Ref sig .tc := ⟨.hbm, 53, rfl⟩
abbrev main_cst_10 : Ref sig .tc := ⟨.hbm, 54, rfl⟩
abbrev main_call2_v0 : Ref sig .tc := ⟨.hbm, 55, rfl⟩
abbrev main_call2_v1 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_11 : Ref sig .tc := ⟨.hbm, 60, rfl⟩
abbrev main_cst_12 : Ref sig .tc := ⟨.hbm, 61, rfl⟩
abbrev main_call3_v0 : Ref sig .tc := ⟨.hbm, 62, rfl⟩
abbrev main_call3_v1 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_13 : Ref sig .tc := ⟨.hbm, 77, rfl⟩
abbrev main_v47 : Ref sig .tc := ⟨.hbm, 78, rfl⟩
abbrev main_v48 : Ref sig .tc := ⟨.hbm, 79, rfl⟩
abbrev main_c_14 : Ref sig .tc := ⟨.hbm, 80, rfl⟩
abbrev main_v49 : Ref sig .tc := ⟨.hbm, 81, rfl⟩
abbrev main_v50 : Ref sig .tc := ⟨.hbm, 82, rfl⟩
abbrev main_c_15 : Ref sig .tc := ⟨.hbm, 83, rfl⟩
abbrev main_c_16 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_17 : Ref sig .tc := ⟨.hbm, 99, rfl⟩
abbrev main_call5_v0 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64_0 : Ref sig .tc := ⟨.hbm, 105, rfl⟩
abbrev main_v64_1 : Ref sig .tc := ⟨.hbm, 106, rfl⟩
abbrev main_v64_2 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c116_i32 : BitVec 32 := 116#32
  let c0_i32_14 : BitVec 32 := 0#32
  let c4_i32 : BitVec 32 := 4#32
  let arg1 : BitVec 32 := BitVec.ofNat 32 (i 1).val
  let c8_i32 : BitVec 32 := 8#32
  let v15 : BitVec 32 := Scalar.muli arg1 c8_i32
  let c0_i32_12 : BitVec 32 := 0#32
  let v16 : BitVec 32 := Scalar.addi v15 c0_i32_12
  let v17 : BitVec 32 := Scalar.muli c4_i32 v16
  let c4_i32_13 : BitVec 32 := 4#32
  let v18 : BitVec 32 := Scalar.subi v17 c4_i32_13
  let v19 : BitVec 32 := Scalar.maxsi c0_i32_14 v18
  let v20 : BitVec 32 := Scalar.minsi c116_i32 v19
  let c64_i32 : BitVec 32 := 64#32
  let v21 : BitVec 32 := Scalar.muli v20 c64_i32
  v21
def k0_off1 (i : grid0.Coords) (c0_i32_12 : BitVec 32) : Fin 2 → Nat :=
  let c116_i32 : BitVec 32 := 116#32
  let c0_i32_14 : BitVec 32 := 0#32
  let c4_i32 : BitVec 32 := 4#32
  let arg1 : BitVec 32 := BitVec.ofNat 32 (i 1).val
  let c8_i32 : BitVec 32 := 8#32
  let v15 : BitVec 32 := Scalar.muli arg1 c8_i32
  let v16 : BitVec 32 := Scalar.addi v15 c0_i32_12
  let v17 : BitVec 32 := Scalar.muli c4_i32 v16
  let c4_i32_13 : BitVec 32 := 4#32
  let v18 : BitVec 32 := Scalar.subi v17 c4_i32_13
  let v19 : BitVec 32 := Scalar.maxsi c0_i32_14 v18
  let v20 : BitVec 32 := Scalar.minsi c116_i32 v19
  let c64_i32 : BitVec 32 := 64#32
  let v21 : BitVec 32 := Scalar.muli v20 c64_i32
  let v22 : BitVec 32 := v21
  let v28 : Index := Scalar.indexCast v22
  let c0_19 : Index := 0#32
  ![v28.toNat, 0]
def k0_off2 (i : grid0.Coords) (c0_i32_12 : BitVec 32) : Fin 4 → Nat :=
  let c0_20 : Index := 0#32
  let arg1 : BitVec 32 := BitVec.ofNat 32 (i 1).val
  let c8_i32 : BitVec 32 := 8#32
  let v15 : BitVec 32 := Scalar.muli arg1 c8_i32
  let v16 : BitVec 32 := Scalar.addi v15 c0_i32_12
  let c0_i32_15 : BitVec 32 := 0#32
  let v23 : BitVec 1 := Scalar.cmpi .eq v16 c0_i32_15
  let c0_i32_16 : BitVec 32 := 0#32
  let c31_i32 : BitVec 32 := 31#32
  let v24 : BitVec 1 := Scalar.cmpi .eq v16 c31_i32
  let c2_i32 : BitVec 32 := 2#32
  let c1_i32 : BitVec 32 := 1#32
  let v25 : BitVec 32 := Scalar.select v24 c2_i32 c1_i32
  let v26 : BitVec 32 := Scalar.select v23 c0_i32_16 v25
  let v31 : Index := Scalar.indexCast v26
  let c0_21 : Index := 0#32
  let c0_22 : Index := 0#32
  ![0, v31.toNat, 0, 0]
def k0_mult2 (i : grid0.Coords) : BitVec 32 :=
  let c116_i32_31 : BitVec 32 := 116#32
  let c0_i32_30 : BitVec 32 := 0#32
  let c4_i32_28 : BitVec 32 := 4#32
  let arg1 : BitVec 32 := BitVec.ofNat 32 (i 1).val
  let c8_i32_26 : BitVec 32 := 8#32
  let v38 : BitVec 32 := Scalar.muli arg1 c8_i32_26
  let c0_i32_27 : BitVec 32 := 0#32
  let v39 : BitVec 32 := Scalar.addi v38 c0_i32_27
  let v40 : BitVec 32 := Scalar.muli c4_i32_28 v39
  let c4_i32_29 : BitVec 32 := 4#32
  let v41 : BitVec 32 := Scalar.subi v40 c4_i32_29
  let v42 : BitVec 32 := Scalar.maxsi c0_i32_30 v41
  let v43 : BitVec 32 := Scalar.minsi c116_i32_31 v42
  let c64_i32_32 : BitVec 32 := 64#32
  let v44 : BitVec 32 := Scalar.muli v43 c64_i32_32
  v44
def k0_off3 (i : grid0.Coords) (c0_i32_27 : BitVec 32) : Fin 2 → Nat :=
  let c116_i32_31 : BitVec 32 := 116#32
  let c0_i32_30 : BitVec 32 := 0#32
  let c4_i32_28 : BitVec 32 := 4#32
  let arg1 : BitVec 32 := BitVec.ofNat 32 (i 1).val
  let c8_i32_26 : BitVec 32 := 8#32
  let v38 : BitVec 32 := Scalar.muli arg1 c8_i32_26
  let v39 : BitVec 32 := Scalar.addi v38 c0_i32_27
  let v40 : BitVec 32 := Scalar.muli c4_i32_28 v39
  let c4_i32_29 : BitVec 32 := 4#32
  let v41 : BitVec 32 := Scalar.subi v40 c4_i32_29
  let v42 : BitVec 32 := Scalar.maxsi c0_i32_30 v41
  let v43 : BitVec 32 := Scalar.minsi c116_i32_31 v42
  let c64_i32_32 : BitVec 32 := 64#32
  let v44 : BitVec 32 := Scalar.muli v43 c64_i32_32
  let v45 : BitVec 32 := v44
  let v51 : Index := Scalar.indexCast v45
  let c128_39 : Index := 128#32
  ![v51.toNat, 128]
def k0_off4 (i : grid0.Coords) (c0_i32_27 : BitVec 32) : Fin 4 → Nat :=
  let c1 : Index := 1#32
  let arg1 : BitVec 32 := BitVec.ofNat 32 (i 1).val
  let c8_i32_26 : BitVec 32 := 8#32
  let v38 : BitVec 32 := Scalar.muli arg1 c8_i32_26
  let v39 : BitVec 32 := Scalar.addi v38 c0_i32_27
  let c0_i32_33 : BitVec 32 := 0#32
  let v46 : BitVec 1 := Scalar.cmpi .eq v39 c0_i32_33
  let c0_i32_37 : BitVec 32 := 0#32
  let c31_i32_34 : BitVec 32 := 31#32
  let v47 : BitVec 1 := Scalar.cmpi .eq v39 c31_i32_34
  let c2_i32_35 : BitVec 32 := 2#32
  let c1_i32_36 : BitVec 32 := 1#32
  let v48 : BitVec 32 := Scalar.select v47 c2_i32_35 c1_i32_36
  let v49 : BitVec 32 := Scalar.select v46 c0_i32_37 v48
  let v54 : Index := Scalar.indexCast v49
  let c0_41 : Index := 0#32
  let c0_42 : Index := 0#32
  ![1, v54.toNat, 0, 0]
def k0_mult3 (i : grid0.Coords) : BitVec 32 :=
  let c116_i32_62 : BitVec 32 := 116#32
  let c0_i32_61 : BitVec 32 := 0#32
  let c4_i32_59 : BitVec 32 := 4#32
  let arg1 : BitVec 32 := BitVec.ofNat 32 (i 1).val
  let c8_i32_57 : BitVec 32 := 8#32
  let v79 : BitVec 32 := Scalar.muli arg1 c8_i32_57
  let c1_i32_58 : BitVec 32 := 1#32
  let v80 : BitVec 32 := Scalar.addi v79 c1_i32_58
  let v81 : BitVec 32 := Scalar.muli c4_i32_59 v80
  let c4_i32_60 : BitVec 32 := 4#32
  let v82 : BitVec 32 := Scalar.subi v81 c4_i32_60
  let v83 : BitVec 32 := Scalar.maxsi c0_i32_61 v82
  let v84 : BitVec 32 := Scalar.minsi c116_i32_62 v83
  let c64_i32_63 : BitVec 32 := 64#32
  let v85 : BitVec 32 := Scalar.muli v84 c64_i32_63
  v85
def k0_mult4 (i : grid0.Coords) : BitVec 32 :=
  let c116_i32_93 : BitVec 32 := 116#32
  let c0_i32_92 : BitVec 32 := 0#32
  let c4_i32_90 : BitVec 32 := 4#32
  let arg1 : BitVec 32 := BitVec.ofNat 32 (i 1).val
  let c8_i32_88 : BitVec 32 := 8#32
  let v120 : BitVec 32 := Scalar.muli arg1 c8_i32_88
  let c0_i32_89 : BitVec 32 := 0#32
  let v121 : BitVec 32 := Scalar.addi v120 c0_i32_89
  let v122 : BitVec 32 := Scalar.muli c4_i32_90 v121
  let c4_i32_91 : BitVec 32 := 4#32
  let v123 : BitVec 32 := Scalar.subi v122 c4_i32_91
  let v124 : BitVec 32 := Scalar.maxsi c0_i32_92 v123
  let v125 : BitVec 32 := Scalar.minsi c116_i32_93 v124
  let c64_i32_94 : BitVec 32 := 64#32
  let v126 : BitVec 32 := Scalar.muli v125 c64_i32_94
  v126
def k0_mult5 (i : grid0.Coords) : BitVec 32 :=
  let c116_i32_110 : BitVec 32 := 116#32
  let c0_i32_109 : BitVec 32 := 0#32
  let c4_i32_107 : BitVec 32 := 4#32
  let arg1 : BitVec 32 := BitVec.ofNat 32 (i 1).val
  let c8_i32_105 : BitVec 32 := 8#32
  let v138 : BitVec 32 := Scalar.muli arg1 c8_i32_105
  let c1_i32_106 : BitVec 32 := 1#32
  let v139 : BitVec 32 := Scalar.addi v138 c1_i32_106
  let v140 : BitVec 32 := Scalar.muli c4_i32_107 v139
  let c4_i32_108 : BitVec 32 := 4#32
  let v141 : BitVec 32 := Scalar.subi v140 c4_i32_108
  let v142 : BitVec 32 := Scalar.maxsi c0_i32_109 v141
  let v143 : BitVec 32 := Scalar.minsi c116_i32_110 v142
  let c64_i32_111 : BitVec 32 := 64#32
  let v144 : BitVec 32 := Scalar.muli v143 c64_i32_111
  v144
def k0_mult6 (i : grid0.Coords) : BitVec 32 :=
  let c116_i32_142 : BitVec 32 := 116#32
  let c0_i32_141 : BitVec 32 := 0#32
  let c4_i32_139 : BitVec 32 := 4#32
  let arg1 : BitVec 32 := BitVec.ofNat 32 (i 1).val
  let c8_i32_137 : BitVec 32 := 8#32
  let v179 : BitVec 32 := Scalar.muli arg1 c8_i32_137
  let c0_i32_138 : BitVec 32 := 0#32
  let v180 : BitVec 32 := Scalar.addi v179 c0_i32_138
  let v181 : BitVec 32 := Scalar.muli c4_i32_139 v180
  let c4_i32_140 : BitVec 32 := 4#32
  let v182 : BitVec 32 := Scalar.subi v181 c4_i32_140
  let v183 : BitVec 32 := Scalar.maxsi c0_i32_141 v182
  let v184 : BitVec 32 := Scalar.minsi c116_i32_142 v183
  let c64_i32_143 : BitVec 32 := 64#32
  let v185 : BitVec 32 := Scalar.muli v184 c64_i32_143
  v185
def k0_mult7 (i : grid0.Coords) : BitVec 32 :=
  let c116_i32_159 : BitVec 32 := 116#32
  let c0_i32_158 : BitVec 32 := 0#32
  let c4_i32_156 : BitVec 32 := 4#32
  let arg1 : BitVec 32 := BitVec.ofNat 32 (i 1).val
  let c8_i32_154 : BitVec 32 := 8#32
  let v197 : BitVec 32 := Scalar.muli arg1 c8_i32_154
  let c2_i32_155 : BitVec 32 := 2#32
  let v198 : BitVec 32 := Scalar.addi v197 c2_i32_155
  let v199 : BitVec 32 := Scalar.muli c4_i32_156 v198
  let c4_i32_157 : BitVec 32 := 4#32
  let v200 : BitVec 32 := Scalar.subi v199 c4_i32_157
  let v201 : BitVec 32 := Scalar.maxsi c0_i32_158 v200
  let v202 : BitVec 32 := Scalar.minsi c116_i32_159 v201
  let c64_i32_160 : BitVec 32 := 64#32
  let v203 : BitVec 32 := Scalar.muli v202 c64_i32_160
  v203
def k0_mult8 (i : grid0.Coords) : BitVec 32 :=
  let c116_i32_191 : BitVec 32 := 116#32
  let c0_i32_190 : BitVec 32 := 0#32
  let c4_i32_188 : BitVec 32 := 4#32
  let arg1 : BitVec 32 := BitVec.ofNat 32 (i 1).val
  let c8_i32_186 : BitVec 32 := 8#32
  let v238 : BitVec 32 := Scalar.muli arg1 c8_i32_186
  let c1_i32_187 : BitVec 32 := 1#32
  let v239 : BitVec 32 := Scalar.addi v238 c1_i32_187
  let v240 : BitVec 32 := Scalar.muli c4_i32_188 v239
  let c4_i32_189 : BitVec 32 := 4#32
  let v241 : BitVec 32 := Scalar.subi v240 c4_i32_189
  let v242 : BitVec 32 := Scalar.maxsi c0_i32_190 v241
  let v243 : BitVec 32 := Scalar.minsi c116_i32_191 v242
  let c64_i32_192 : BitVec 32 := 64#32
  let v244 : BitVec 32 := Scalar.muli v243 c64_i32_192
  v244
def k0_mult9 (i : grid0.Coords) : BitVec 32 :=
  let c116_i32_208 : BitVec 32 := 116#32
  let c0_i32_207 : BitVec 32 := 0#32
  let c4_i32_205 : BitVec 32 := 4#32
  let arg1 : BitVec 32 := BitVec.ofNat 32 (i 1).val
  let c8_i32_203 : BitVec 32 := 8#32
  let v256 : BitVec 32 := Scalar.muli arg1 c8_i32_203
  let c2_i32_204 : BitVec 32 := 2#32
  let v257 : BitVec 32 := Scalar.addi v256 c2_i32_204
  let v258 : BitVec 32 := Scalar.muli c4_i32_205 v257
  let c4_i32_206 : BitVec 32 := 4#32
  let v259 : BitVec 32 := Scalar.subi v258 c4_i32_206
  let v260 : BitVec 32 := Scalar.maxsi c0_i32_207 v259
  let v261 : BitVec 32 := Scalar.minsi c116_i32_208 v260
  let c64_i32_209 : BitVec 32 := 64#32
  let v262 : BitVec 32 := Scalar.muli v261 c64_i32_209
  v262
def k0_mult10 (i : grid0.Coords) : BitVec 32 :=
  let c116_i32_241 : BitVec 32 := 116#32
  let c0_i32_240 : BitVec 32 := 0#32
  let c4_i32_238 : BitVec 32 := 4#32
  let arg1 : BitVec 32 := BitVec.ofNat 32 (i 1).val
  let c8_i32_236 : BitVec 32 := 8#32
  let v297 : BitVec 32 := Scalar.muli arg1 c8_i32_236
  let c1_i32_237 : BitVec 32 := 1#32
  let v298 : BitVec 32 := Scalar.addi v297 c1_i32_237
  let v299 : BitVec 32 := Scalar.muli c4_i32_238 v298
  let c4_i32_239 : BitVec 32 := 4#32
  let v300 : BitVec 32 := Scalar.subi v299 c4_i32_239
  let v301 : BitVec 32 := Scalar.maxsi c0_i32_240 v300
  let v302 : BitVec 32 := Scalar.minsi c116_i32_241 v301
  let c64_i32_242 : BitVec 32 := 64#32
  let v303 : BitVec 32 := Scalar.muli v302 c64_i32_242
  v303
def k0_mult11 (i : grid0.Coords) : BitVec 32 :=
  let c116_i32_257 : BitVec 32 := 116#32
  let c0_i32_256 : BitVec 32 := 0#32
  let c4_i32_254 : BitVec 32 := 4#32
  let arg1 : BitVec 32 := BitVec.ofNat 32 (i 1).val
  let c8_i32_253 : BitVec 32 := 8#32
  let v315 : BitVec 32 := Scalar.muli arg1 c8_i32_253
  let c3_i32 : BitVec 32 := 3#32
  let v316 : BitVec 32 := Scalar.addi v315 c3_i32
  let v317 : BitVec 32 := Scalar.muli c4_i32_254 v316
  let c4_i32_255 : BitVec 32 := 4#32
  let v318 : BitVec 32 := Scalar.subi v317 c4_i32_255
  let v319 : BitVec 32 := Scalar.maxsi c0_i32_256 v318
  let v320 : BitVec 32 := Scalar.minsi c116_i32_257 v319
  let c64_i32_258 : BitVec 32 := 64#32
  let v321 : BitVec 32 := Scalar.muli v320 c64_i32_258
  v321
def k0_mult12 (i : grid0.Coords) : BitVec 32 :=
  let c116_i32_289 : BitVec 32 := 116#32
  let c0_i32_288 : BitVec 32 := 0#32
  let c4_i32_286 : BitVec 32 := 4#32
  let arg1 : BitVec 32 := BitVec.ofNat 32 (i 1).val
  let c8_i32_284 : BitVec 32 := 8#32
  let v356 : BitVec 32 := Scalar.muli arg1 c8_i32_284
  let c2_i32_285 : BitVec 32 := 2#32
  let v357 : BitVec 32 := Scalar.addi v356 c2_i32_285
  let v358 : BitVec 32 := Scalar.muli c4_i32_286 v357
  let c4_i32_287 : BitVec 32 := 4#32
  let v359 : BitVec 32 := Scalar.subi v358 c4_i32_287
  let v360 : BitVec 32 := Scalar.maxsi c0_i32_288 v359
  let v361 : BitVec 32 := Scalar.minsi c116_i32_289 v360
  let c64_i32_290 : BitVec 32 := 64#32
  let v362 : BitVec 32 := Scalar.muli v361 c64_i32_290
  v362
def k0_mult13 (i : grid0.Coords) : BitVec 32 :=
  let c116_i32_306 : BitVec 32 := 116#32
  let c0_i32_305 : BitVec 32 := 0#32
  let c4_i32_303 : BitVec 32 := 4#32
  let arg1 : BitVec 32 := BitVec.ofNat 32 (i 1).val
  let c8_i32_301 : BitVec 32 := 8#32
  let v374 : BitVec 32 := Scalar.muli arg1 c8_i32_301
  let c3_i32_302 : BitVec 32 := 3#32
  let v375 : BitVec 32 := Scalar.addi v374 c3_i32_302
  let v376 : BitVec 32 := Scalar.muli c4_i32_303 v375
  let c4_i32_304 : BitVec 32 := 4#32
  let v377 : BitVec 32 := Scalar.subi v376 c4_i32_304
  let v378 : BitVec 32 := Scalar.maxsi c0_i32_305 v377
  let v379 : BitVec 32 := Scalar.minsi c116_i32_306 v378
  let c64_i32_307 : BitVec 32 := 64#32
  let v380 : BitVec 32 := Scalar.muli v379 c64_i32_307
  v380
def k0_mult14 (i : grid0.Coords) : BitVec 32 :=
  let c116_i32_339 : BitVec 32 := 116#32
  let c0_i32_338 : BitVec 32 := 0#32
  let c4_i32_336 : BitVec 32 := 4#32
  let arg1 : BitVec 32 := BitVec.ofNat 32 (i 1).val
  let c8_i32_334 : BitVec 32 := 8#32
  let v415 : BitVec 32 := Scalar.muli arg1 c8_i32_334
  let c2_i32_335 : BitVec 32 := 2#32
  let v416 : BitVec 32 := Scalar.addi v415 c2_i32_335
  let v417 : BitVec 32 := Scalar.muli c4_i32_336 v416
  let c4_i32_337 : BitVec 32 := 4#32
  let v418 : BitVec 32 := Scalar.subi v417 c4_i32_337
  let v419 : BitVec 32 := Scalar.maxsi c0_i32_338 v418
  let v420 : BitVec 32 := Scalar.minsi c116_i32_339 v419
  let c64_i32_340 : BitVec 32 := 64#32
  let v421 : BitVec 32 := Scalar.muli v420 c64_i32_340
  v421
def k0_mult15 (i : grid0.Coords) : BitVec 32 :=
  let c116_i32_356 : BitVec 32 := 116#32
  let c0_i32_355 : BitVec 32 := 0#32
  let c4_i32_353 : BitVec 32 := 4#32
  let arg1 : BitVec 32 := BitVec.ofNat 32 (i 1).val
  let c8_i32_351 : BitVec 32 := 8#32
  let v433 : BitVec 32 := Scalar.muli arg1 c8_i32_351
  let c4_i32_352 : BitVec 32 := 4#32
  let v434 : BitVec 32 := Scalar.addi v433 c4_i32_352
  let v435 : BitVec 32 := Scalar.muli c4_i32_353 v434
  let c4_i32_354 : BitVec 32 := 4#32
  let v436 : BitVec 32 := Scalar.subi v435 c4_i32_354
  let v437 : BitVec 32 := Scalar.maxsi c0_i32_355 v436
  let v438 : BitVec 32 := Scalar.minsi c116_i32_356 v437
  let c64_i32_357 : BitVec 32 := 64#32
  let v439 : BitVec 32 := Scalar.muli v438 c64_i32_357
  v439
def k0_mult16 (i : grid0.Coords) : BitVec 32 :=
  let c116_i32_388 : BitVec 32 := 116#32
  let c0_i32_387 : BitVec 32 := 0#32
  let c4_i32_385 : BitVec 32 := 4#32
  let arg1 : BitVec 32 := BitVec.ofNat 32 (i 1).val
  let c8_i32_383 : BitVec 32 := 8#32
  let v474 : BitVec 32 := Scalar.muli arg1 c8_i32_383
  let c3_i32_384 : BitVec 32 := 3#32
  let v475 : BitVec 32 := Scalar.addi v474 c3_i32_384
  let v476 : BitVec 32 := Scalar.muli c4_i32_385 v475
  let c4_i32_386 : BitVec 32 := 4#32
  let v477 : BitVec 32 := Scalar.subi v476 c4_i32_386
  let v478 : BitVec 32 := Scalar.maxsi c0_i32_387 v477
  let v479 : BitVec 32 := Scalar.minsi c116_i32_388 v478
  let c64_i32_389 : BitVec 32 := 64#32
  let v480 : BitVec 32 := Scalar.muli v479 c64_i32_389
  v480
def k0_mult17 (i : grid0.Coords) : BitVec 32 :=
  let c116_i32_405 : BitVec 32 := 116#32
  let c0_i32_404 : BitVec 32 := 0#32
  let c4_i32_402 : BitVec 32 := 4#32
  let arg1 : BitVec 32 := BitVec.ofNat 32 (i 1).val
  let c8_i32_400 : BitVec 32 := 8#32
  let v492 : BitVec 32 := Scalar.muli arg1 c8_i32_400
  let c4_i32_401 : BitVec 32 := 4#32
  let v493 : BitVec 32 := Scalar.addi v492 c4_i32_401
  let v494 : BitVec 32 := Scalar.muli c4_i32_402 v493
  let c4_i32_403 : BitVec 32 := 4#32
  let v495 : BitVec 32 := Scalar.subi v494 c4_i32_403
  let v496 : BitVec 32 := Scalar.maxsi c0_i32_404 v495
  let v497 : BitVec 32 := Scalar.minsi c116_i32_405 v496
  let c64_i32_406 : BitVec 32 := 64#32
  let v498 : BitVec 32 := Scalar.muli v497 c64_i32_406
  v498
def k0_mult18 (i : grid0.Coords) : BitVec 32 :=
  let c116_i32_438 : BitVec 32 := 116#32
  let c0_i32_437 : BitVec 32 := 0#32
  let c4_i32_435 : BitVec 32 := 4#32
  let arg1 : BitVec 32 := BitVec.ofNat 32 (i 1).val
  let c8_i32_433 : BitVec 32 := 8#32
  let v533 : BitVec 32 := Scalar.muli arg1 c8_i32_433
  let c3_i32_434 : BitVec 32 := 3#32
  let v534 : BitVec 32 := Scalar.addi v533 c3_i32_434
  let v535 : BitVec 32 := Scalar.muli c4_i32_435 v534
  let c4_i32_436 : BitVec 32 := 4#32
  let v536 : BitVec 32 := Scalar.subi v535 c4_i32_436
  let v537 : BitVec 32 := Scalar.maxsi c0_i32_437 v536
  let v538 : BitVec 32 := Scalar.minsi c116_i32_438 v537
  let c64_i32_439 : BitVec 32 := 64#32
  let v539 : BitVec 32 := Scalar.muli v538 c64_i32_439
  v539
def k0_mult19 (i : grid0.Coords) : BitVec 32 :=
  let c116_i32_454 : BitVec 32 := 116#32
  let c0_i32_453 : BitVec 32 := 0#32
  let c4_i32_451 : BitVec 32 := 4#32
  let arg1 : BitVec 32 := BitVec.ofNat 32 (i 1).val
  let c8_i32_450 : BitVec 32 := 8#32
  let v551 : BitVec 32 := Scalar.muli arg1 c8_i32_450
  let c5_i32 : BitVec 32 := 5#32
  let v552 : BitVec 32 := Scalar.addi v551 c5_i32
  let v553 : BitVec 32 := Scalar.muli c4_i32_451 v552
  let c4_i32_452 : BitVec 32 := 4#32
  let v554 : BitVec 32 := Scalar.subi v553 c4_i32_452
  let v555 : BitVec 32 := Scalar.maxsi c0_i32_453 v554
  let v556 : BitVec 32 := Scalar.minsi c116_i32_454 v555
  let c64_i32_455 : BitVec 32 := 64#32
  let v557 : BitVec 32 := Scalar.muli v556 c64_i32_455
  v557
def k0_mult20 (i : grid0.Coords) : BitVec 32 :=
  let c116_i32_486 : BitVec 32 := 116#32
  let c0_i32_485 : BitVec 32 := 0#32
  let c4_i32_483 : BitVec 32 := 4#32
  let arg1 : BitVec 32 := BitVec.ofNat 32 (i 1).val
  let c8_i32_481 : BitVec 32 := 8#32
  let v592 : BitVec 32 := Scalar.muli arg1 c8_i32_481
  let c4_i32_482 : BitVec 32 := 4#32
  let v593 : BitVec 32 := Scalar.addi v592 c4_i32_482
  let v594 : BitVec 32 := Scalar.muli c4_i32_483 v593
  let c4_i32_484 : BitVec 32 := 4#32
  let v595 : BitVec 32 := Scalar.subi v594 c4_i32_484
  let v596 : BitVec 32 := Scalar.maxsi c0_i32_485 v595
  let v597 : BitVec 32 := Scalar.minsi c116_i32_486 v596
  let c64_i32_487 : BitVec 32 := 64#32
  let v598 : BitVec 32 := Scalar.muli v597 c64_i32_487
  v598
def k0_mult21 (i : grid0.Coords) : BitVec 32 :=
  let c116_i32_503 : BitVec 32 := 116#32
  let c0_i32_502 : BitVec 32 := 0#32
  let c4_i32_500 : BitVec 32 := 4#32
  let arg1 : BitVec 32 := BitVec.ofNat 32 (i 1).val
  let c8_i32_498 : BitVec 32 := 8#32
  let v610 : BitVec 32 := Scalar.muli arg1 c8_i32_498
  let c5_i32_499 : BitVec 32 := 5#32
  let v611 : BitVec 32 := Scalar.addi v610 c5_i32_499
  let v612 : BitVec 32 := Scalar.muli c4_i32_500 v611
  let c4_i32_501 : BitVec 32 := 4#32
  let v613 : BitVec 32 := Scalar.subi v612 c4_i32_501
  let v614 : BitVec 32 := Scalar.maxsi c0_i32_502 v613
  let v615 : BitVec 32 := Scalar.minsi c116_i32_503 v614
  let c64_i32_504 : BitVec 32 := 64#32
  let v616 : BitVec 32 := Scalar.muli v615 c64_i32_504
  v616
def k0_mult22 (i : grid0.Coords) : BitVec 32 :=
  let c116_i32_536 : BitVec 32 := 116#32
  let c0_i32_535 : BitVec 32 := 0#32
  let c4_i32_533 : BitVec 32 := 4#32
  let arg1 : BitVec 32 := BitVec.ofNat 32 (i 1).val
  let c8_i32_531 : BitVec 32 := 8#32
  let v651 : BitVec 32 := Scalar.muli arg1 c8_i32_531
  let c4_i32_532 : BitVec 32 := 4#32
  let v652 : BitVec 32 := Scalar.addi v651 c4_i32_532
  let v653 : BitVec 32 := Scalar.muli c4_i32_533 v652
  let c4_i32_534 : BitVec 32 := 4#32
  let v654 : BitVec 32 := Scalar.subi v653 c4_i32_534
  let v655 : BitVec 32 := Scalar.maxsi c0_i32_535 v654
  let v656 : BitVec 32 := Scalar.minsi c116_i32_536 v655
  let c64_i32_537 : BitVec 32 := 64#32
  let v657 : BitVec 32 := Scalar.muli v656 c64_i32_537
  v657
def k0_mult23 (i : grid0.Coords) : BitVec 32 :=
  let c116_i32_552 : BitVec 32 := 116#32
  let c0_i32_551 : BitVec 32 := 0#32
  let c4_i32_549 : BitVec 32 := 4#32
  let arg1 : BitVec 32 := BitVec.ofNat 32 (i 1).val
  let c8_i32_548 : BitVec 32 := 8#32
  let v669 : BitVec 32 := Scalar.muli arg1 c8_i32_548
  let c6_i32 : BitVec 32 := 6#32
  let v670 : BitVec 32 := Scalar.addi v669 c6_i32
  let v671 : BitVec 32 := Scalar.muli c4_i32_549 v670
  let c4_i32_550 : BitVec 32 := 4#32
  let v672 : BitVec 32 := Scalar.subi v671 c4_i32_550
  let v673 : BitVec 32 := Scalar.maxsi c0_i32_551 v672
  let v674 : BitVec 32 := Scalar.minsi c116_i32_552 v673
  let c64_i32_553 : BitVec 32 := 64#32
  let v675 : BitVec 32 := Scalar.muli v674 c64_i32_553
  v675
def k0_mult24 (i : grid0.Coords) : BitVec 32 :=
  let c116_i32_584 : BitVec 32 := 116#32
  let c0_i32_583 : BitVec 32 := 0#32
  let c4_i32_581 : BitVec 32 := 4#32
  let arg1 : BitVec 32 := BitVec.ofNat 32 (i 1).val
  let c8_i32_579 : BitVec 32 := 8#32
  let v710 : BitVec 32 := Scalar.muli arg1 c8_i32_579
  let c5_i32_580 : BitVec 32 := 5#32
  let v711 : BitVec 32 := Scalar.addi v710 c5_i32_580
  let v712 : BitVec 32 := Scalar.muli c4_i32_581 v711
  let c4_i32_582 : BitVec 32 := 4#32
  let v713 : BitVec 32 := Scalar.subi v712 c4_i32_582
  let v714 : BitVec 32 := Scalar.maxsi c0_i32_583 v713
  let v715 : BitVec 32 := Scalar.minsi c116_i32_584 v714
  let c64_i32_585 : BitVec 32 := 64#32
  let v716 : BitVec 32 := Scalar.muli v715 c64_i32_585
  v716
def k0_mult25 (i : grid0.Coords) : BitVec 32 :=
  let c116_i32_601 : BitVec 32 := 116#32
  let c0_i32_600 : BitVec 32 := 0#32
  let c4_i32_598 : BitVec 32 := 4#32
  let arg1 : BitVec 32 := BitVec.ofNat 32 (i 1).val
  let c8_i32_596 : BitVec 32 := 8#32
  let v728 : BitVec 32 := Scalar.muli arg1 c8_i32_596
  let c6_i32_597 : BitVec 32 := 6#32
  let v729 : BitVec 32 := Scalar.addi v728 c6_i32_597
  let v730 : BitVec 32 := Scalar.muli c4_i32_598 v729
  let c4_i32_599 : BitVec 32 := 4#32
  let v731 : BitVec 32 := Scalar.subi v730 c4_i32_599
  let v732 : BitVec 32 := Scalar.maxsi c0_i32_600 v731
  let v733 : BitVec 32 := Scalar.minsi c116_i32_601 v732
  let c64_i32_602 : BitVec 32 := 64#32
  let v734 : BitVec 32 := Scalar.muli v733 c64_i32_602
  v734
def k0_mult26 (i : grid0.Coords) : BitVec 32 :=
  let c116_i32_634 : BitVec 32 := 116#32
  let c0_i32_633 : BitVec 32 := 0#32
  let c4_i32_631 : BitVec 32 := 4#32
  let arg1 : BitVec 32 := BitVec.ofNat 32 (i 1).val
  let c8_i32_629 : BitVec 32 := 8#32
  let v769 : BitVec 32 := Scalar.muli arg1 c8_i32_629
  let c5_i32_630 : BitVec 32 := 5#32
  let v770 : BitVec 32 := Scalar.addi v769 c5_i32_630
  let v771 : BitVec 32 := Scalar.muli c4_i32_631 v770
  let c4_i32_632 : BitVec 32 := 4#32
  let v772 : BitVec 32 := Scalar.subi v771 c4_i32_632
  let v773 : BitVec 32 := Scalar.maxsi c0_i32_633 v772
  let v774 : BitVec 32 := Scalar.minsi c116_i32_634 v773
  let c64_i32_635 : BitVec 32 := 64#32
  let v775 : BitVec 32 := Scalar.muli v774 c64_i32_635
  v775
def k0_mult27 (i : grid0.Coords) : BitVec 32 :=
  let c116_i32_650 : BitVec 32 := 116#32
  let c0_i32_649 : BitVec 32 := 0#32
  let c4_i32_647 : BitVec 32 := 4#32
  let arg1 : BitVec 32 := BitVec.ofNat 32 (i 1).val
  let c8_i32_646 : BitVec 32 := 8#32
  let v787 : BitVec 32 := Scalar.muli arg1 c8_i32_646
  let c7_i32 : BitVec 32 := 7#32
  let v788 : BitVec 32 := Scalar.addi v787 c7_i32
  let v789 : BitVec 32 := Scalar.muli c4_i32_647 v788
  let c4_i32_648 : BitVec 32 := 4#32
  let v790 : BitVec 32 := Scalar.subi v789 c4_i32_648
  let v791 : BitVec 32 := Scalar.maxsi c0_i32_649 v790
  let v792 : BitVec 32 := Scalar.minsi c116_i32_650 v791
  let c64_i32_651 : BitVec 32 := 64#32
  let v793 : BitVec 32 := Scalar.muli v792 c64_i32_651
  v793
def k0_mult28 (i : grid0.Coords) : BitVec 32 :=
  let c116_i32_682 : BitVec 32 := 116#32
  let c0_i32_681 : BitVec 32 := 0#32
  let c4_i32_679 : BitVec 32 := 4#32
  let arg1 : BitVec 32 := BitVec.ofNat 32 (i 1).val
  let c8_i32_677 : BitVec 32 := 8#32
  let v828 : BitVec 32 := Scalar.muli arg1 c8_i32_677
  let c6_i32_678 : BitVec 32 := 6#32
  let v829 : BitVec 32 := Scalar.addi v828 c6_i32_678
  let v830 : BitVec 32 := Scalar.muli c4_i32_679 v829
  let c4_i32_680 : BitVec 32 := 4#32
  let v831 : BitVec 32 := Scalar.subi v830 c4_i32_680
  let v832 : BitVec 32 := Scalar.maxsi c0_i32_681 v831
  let v833 : BitVec 32 := Scalar.minsi c116_i32_682 v832
  let c64_i32_683 : BitVec 32 := 64#32
  let v834 : BitVec 32 := Scalar.muli v833 c64_i32_683
  v834
def k0_mult29 (i : grid0.Coords) : BitVec 32 :=
  let c116_i32_699 : BitVec 32 := 116#32
  let c0_i32_698 : BitVec 32 := 0#32
  let c4_i32_696 : BitVec 32 := 4#32
  let arg1 : BitVec 32 := BitVec.ofNat 32 (i 1).val
  let c8_i32_694 : BitVec 32 := 8#32
  let v846 : BitVec 32 := Scalar.muli arg1 c8_i32_694
  let c7_i32_695 : BitVec 32 := 7#32
  let v847 : BitVec 32 := Scalar.addi v846 c7_i32_695
  let v848 : BitVec 32 := Scalar.muli c4_i32_696 v847
  let c4_i32_697 : BitVec 32 := 4#32
  let v849 : BitVec 32 := Scalar.subi v848 c4_i32_697
  let v850 : BitVec 32 := Scalar.maxsi c0_i32_698 v849
  let v851 : BitVec 32 := Scalar.minsi c116_i32_699 v850
  let c64_i32_700 : BitVec 32 := 64#32
  let v852 : BitVec 32 := Scalar.muli v851 c64_i32_700
  v852
def k0_mult30 (i : grid0.Coords) : BitVec 32 :=
  let c116_i32_732 : BitVec 32 := 116#32
  let c0_i32_731 : BitVec 32 := 0#32
  let c4_i32_729 : BitVec 32 := 4#32
  let arg1 : BitVec 32 := BitVec.ofNat 32 (i 1).val
  let c8_i32_727 : BitVec 32 := 8#32
  let v887 : BitVec 32 := Scalar.muli arg1 c8_i32_727
  let c6_i32_728 : BitVec 32 := 6#32
  let v888 : BitVec 32 := Scalar.addi v887 c6_i32_728
  let v889 : BitVec 32 := Scalar.muli c4_i32_729 v888
  let c4_i32_730 : BitVec 32 := 4#32
  let v890 : BitVec 32 := Scalar.subi v889 c4_i32_730
  let v891 : BitVec 32 := Scalar.maxsi c0_i32_731 v890
  let v892 : BitVec 32 := Scalar.minsi c116_i32_732 v891
  let c64_i32_733 : BitVec 32 := 64#32
  let v893 : BitVec 32 := Scalar.muli v892 c64_i32_733
  v893
def k0_mult31 (i : grid0.Coords) : BitVec 32 :=
  let c116_i32_760 : BitVec 32 := 116#32
  let c0_i32_759 : BitVec 32 := 0#32
  let c4_i32_757 : BitVec 32 := 4#32
  let arg1 : BitVec 32 := BitVec.ofNat 32 (i 1).val
  let c8_i32_755 : BitVec 32 := 8#32
  let v923 : BitVec 32 := Scalar.muli arg1 c8_i32_755
  let c7_i32_756 : BitVec 32 := 7#32
  let v924 : BitVec 32 := Scalar.addi v923 c7_i32_756
  let v925 : BitVec 32 := Scalar.muli c4_i32_757 v924
  let c4_i32_758 : BitVec 32 := 4#32
  let v926 : BitVec 32 := Scalar.subi v925 c4_i32_758
  let v927 : BitVec 32 := Scalar.maxsi c0_i32_759 v926
  let v928 : BitVec 32 := Scalar.minsi c116_i32_760 v927
  let c64_i32_761 : BitVec 32 := 64#32
  let v929 : BitVec 32 := Scalar.muli v928 c64_i32_761
  v929
def k0_mult32 (i : grid0.Coords) : BitVec 32 :=
  let c116_i32_777 : BitVec 32 := 116#32
  let c0_i32_776 : BitVec 32 := 0#32
  let c4_i32_774 : BitVec 32 := 4#32
  let arg1 : BitVec 32 := BitVec.ofNat 32 (i 1).val
  let c8_i32_772 : BitVec 32 := 8#32
  let v941 : BitVec 32 := Scalar.muli arg1 c8_i32_772
  let c7_i32_773 : BitVec 32 := 7#32
  let v942 : BitVec 32 := Scalar.addi v941 c7_i32_773
  let v943 : BitVec 32 := Scalar.muli c4_i32_774 v942
  let c4_i32_775 : BitVec 32 := 4#32
  let v944 : BitVec 32 := Scalar.subi v943 c4_i32_775
  let v945 : BitVec 32 := Scalar.maxsi c0_i32_776 v944
  let v946 : BitVec 32 := Scalar.minsi c116_i32_777 v945
  let c64_i32_778 : BitVec 32 := 64#32
  let v947 : BitVec 32 := Scalar.muli v946 c64_i32_778
  v947
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x22x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3x256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== Mlp.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S1024x2048 : Shape := ⟨2, ![1024, 2048]⟩
abbrev S1024x256 : Shape := ⟨2, ![1024, 256]⟩
abbrev S1x2048x1024 : Shape := ⟨3, ![1, 2048, 1024]⟩
abbrev S1x8192x256 : Shape := ⟨3, ![1, 8192, 256]⟩
abbrev S8x1024x1024 : Shape := ⟨3, ![8, 1024, 1024]⟩
abbrev S2048x1024 : Shape := ⟨2, ![2048, 1024]⟩
abbrev S1024x1024 : Shape := ⟨2, ![1024, 1024]⟩
abbrev S1x1024x1024 : Shape := ⟨3, ![1, 1024, 1024]⟩
abbrev S1x1024x256 : Shape := ⟨3, ![1, 1024, 256]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048x8192, .bf16⟩
  | .hbm, ⟨3, _⟩ => ⟨S1x8192x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x256, .f32⟩
  | .local _ .vmem, ⟨3, _⟩ => ⟨S1024x256, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x8192x256, .bf16⟩
  | .local _ .vmem, ⟨7, _⟩ => ⟨S1x8192x256, .bf16⟩
  | .local _ .vmem, ⟨8, _⟩ => ⟨S1024x256, .f32⟩
  | .local _ .vmem, ⟨9, _⟩ => ⟨S1024x256, .f32⟩
  | .local _ .vmem, ⟨10, _⟩ => ⟨S8x1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let c2_i32 : BitVec 32 := 2#32
  let c0_i32_7 : BitVec 32 := 0#32
  let v14 : BitVec 1 := Scalar.cmpi .eq c2_i32 c0_i32_7
  let c1_i32 : BitVec 32 := 1#32
  let v15 : BitVec 32 := Scalar.select v14 c1_i32 c2_i32
  let v16 : BitVec 32 := Scalar.remsi arg0 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_11 : BitVec 32 := 0#32
  let v24 : BitVec 1 := Scalar.cmpi .eq v23 c0_i32_11
  let arg1 : BitVec 32 := BitVec.ofNat 32 (i 1).val
  let c7_i32 : BitVec 32 := 7#32
  let v25 : BitVec 32 := Scalar.subi c7_i32 arg1
  let v26 : BitVec 32 := Scalar.select v24 arg1 v25
  let v27 : Index := Scalar.indexCast v26
  let c0_12 : Index := 0#32
  let c0_13 : Index := 0#32
  ![v27.toNat, 0, 0]
def k0_cond2 (i : grid0.Coords) : BitVec 1 :=
  let arg1 : BitVec 32 := BitVec.ofNat 32 (i 1).val
  let c8_i32_0 : BitVec 32 := 8#32
  let v3 : BitVec 1 := Scalar.cmpi .sge arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32 : BitVec 32 := 1#32
  let v3 : BitVec 32 := Scalar.select v2 c1_i32 c2_i32
  let v4 : BitVec 32 := Scalar.remsi arg0 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c7_i32 : BitVec 32 := 7#32
  let v13 : BitVec 32 := Scalar.subi c7_i32 v1
  let v14 : BitVec 32 := Scalar.select v12 v1 v13
  let c0_i32_5 : BitVec 32 := 0#32
  ![arg0.toNat, v14.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 1 := Scalar.cmpi .eq v10 c0_i32_3
  let c7_i32_4 : BitVec 32 := 7#32
  let v12 : BitVec 32 := Scalar.subi c7_i32_4 v0
  let v13 : BitVec 32 := Scalar.select v11 v0 v12
  let c0_i32_5 : BitVec 32 := 0#32
  let c0_i32_6 : BitVec 32 := 0#32
  let c0_i32_7 : BitVec 32 := 0#32
  ![c0_i32_5.toNat, c0_i32_6.toNat, v13.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32 : BitVec 32 := 1#32
  let v3 : BitVec 32 := Scalar.select v2 c1_i32 c2_i32
  let v4 : BitVec 32 := Scalar.remsi arg0 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c7_i32 : BitVec 32 := 7#32
  let v13 : BitVec 32 := Scalar.subi c7_i32 v1
  let v14 : BitVec 32 := Scalar.select v12 v1 v13
  let c0_i32_5 : BitVec 32 := 0#32
  let c0_i32_6 : BitVec 32 := 0#32
  let c0_i32_7 : BitVec 32 := 0#32
  ![c0_i32_5.toNat, c0_i32_6.toNat, v14.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32 : BitVec 32 := 1#32
  let v3 : BitVec 32 := Scalar.select v2 c1_i32 c2_i32
  let v4 : BitVec 32 := Scalar.remsi arg0 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c7_i32 : BitVec 32 := 7#32
  let v13 : BitVec 32 := Scalar.subi c7_i32 v1
  let v14 : BitVec 32 := Scalar.select v12 v1 v13
  let c0_i32_5 : BitVec 32 := 0#32
  ![arg0.toNat, v14.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Qkv.lean ====
abbrev S8192x2048 : Shape := ⟨2, ![8192, 2048]⟩
abbrev S2048 : Shape := ⟨1, ![2048]⟩
abbrev S1x2048x6144 : Shape := ⟨3, ![1, 2048, 6144]⟩
abbrev S1x2048 : Shape := ⟨2, ![1, 2048]⟩
abbrev S8192x6144 : Shape := ⟨2, ![8192, 6144]⟩
abbrev S1024x2048 : Shape := ⟨2, ![1024, 2048]⟩
abbrev S1x2048x2048 : Shape := ⟨3, ![1, 2048, 2048]⟩
abbrev S1024 : Shape := ⟨1, ![1024]⟩
abbrev S1024x1 : Shape := ⟨2, ![1024, 1]⟩
abbrev S2048x2048 : Shape := ⟨2, ![2048, 2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x6144, .bf16⟩
  | .hbm, ⟨3, _⟩ => ⟨S1x2048, .f32⟩
  | .hbm, ⟨4, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c2_i32_4 : BitVec 32 := 2#32
  let v11 : BitVec 32 := Scalar.subi c2_i32_4 arg1
  let v12 : BitVec 32 := Scalar.select v10 arg1 v11
  let c0_i32_5 : BitVec 32 := 0#32
  let c0_i32_6 : BitVec 32 := 0#32
  let c0_i32_7 : BitVec 32 := 0#32
  ![c0_i32_5.toNat, c0_i32_6.toNat, v12.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c2_i32_4 : BitVec 32 := 2#32
  let v11 : BitVec 32 := Scalar.subi c2_i32_4 arg1
  let v12 : BitVec 32 := Scalar.select v10 arg1 v11
  let c0_i32_5 : BitVec 32 := 0#32
  ![arg0.toNat, v12.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvIdeal.lean ====
variable {F : FTy → Type} [FloatOps F] [Named F]
def κ : String → Option EReal := fun
  | "attn" => some (((Real.log 2)⁻¹ * (Real.sqrt 128)⁻¹ : ℝ) : EReal)
  | _ => none
-- ==== Proj.lean ====
abbrev S8192x2048 : Shape := ⟨2, ![8192, 2048]⟩
abbrev S2048 : Shape := ⟨1, ![2048]⟩
abbrev S1x2048x4096 : Shape := ⟨3, ![1, 2048, 4096]⟩
abbrev S1x2048 : Shape := ⟨2, ![1, 2048]⟩
abbrev S8192x4096 : Shape := ⟨2, ![8192, 4096]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x4096, .bf16⟩
  | .hbm, ⟨3, _⟩ => ⟨S1x2048, .f32⟩
  | .hbm, ⟨4, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c3_i32 : BitVec 32 := 3#32
  let v11 : BitVec 32 := Scalar.subi c3_i32 arg1
  let v12 : BitVec 32 := Scalar.select v10 arg1 v11
  let c0_i32_4 : BitVec 32 := 0#32
  let c0_i32_5 : BitVec 32 := 0#32
  let c0_i32_6 : BitVec 32 := 0#32
  ![c0_i32_4.toNat, c0_i32_5.toNat, v12.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c3_i32 : BitVec 32 := 3#32
  let v11 : BitVec 32 := Scalar.subi c3_i32 arg1
  let v12 : BitVec 32 := Scalar.select v10 arg1 v11
  let c0_i32_4 : BitVec 32 := 0#32
  ![arg0.toNat, v12.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Out.lean ====
abbrev S8192x2048 : Shape := ⟨2, ![8192, 2048]⟩
abbrev S1x2048x2048 : Shape := ⟨3, ![1, 2048, 2048]⟩
abbrev S2048 : Shape := ⟨1, ![2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Glu.lean ====
abbrev S8192x1024 : Shape := ⟨2, ![8192, 1024]⟩
abbrev S8192x4096 : Shape := ⟨2, ![8192, 4096]⟩
abbrev S1024 : Shape := ⟨1, ![1024]⟩
abbrev S2x1024x1024 : Shape := ⟨3, ![2, 1024, 1024]⟩
abbrev S1x2048x2048 : Shape := ⟨3, ![1, 2048, 2048]⟩
abbrev S8192x2048 : Shape := ⟨2, ![8192, 2048]⟩
abbrev S2048 : Shape := ⟨1, ![2048]⟩
abbrev S1x1024 : Shape := ⟨2, ![1, 1024]⟩
abbrev S1x2048 : Shape := ⟨2, ![1, 2048]⟩
abbrev S512x1024 : Shape := ⟨2, ![512, 1024]⟩
abbrev S1x1024x1024 : Shape := ⟨3, ![1, 1024, 1024]⟩
abbrev S512x2048 : Shape := ⟨2, ![512, 2048]⟩
abbrev S1024x1024 : Shape := ⟨2, ![1024, 1024]⟩
abbrev S1x1024x2048 : Shape := ⟨3, ![1, 1024, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 13
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S8192x4096, .f32⟩
  | .hbm, ⟨4, _⟩ => ⟨S1024, .f32⟩
  | .hbm, ⟨5, _⟩ => ⟨S2x1024x1024, .bf16⟩
  | .hbm, ⟨6, _⟩ => ⟨S1x2048x2048, .bf16⟩
  | .hbm, ⟨7, _⟩ => ⟨S8192x2048, .f32⟩
  | .hbm, ⟨8, _⟩ => ⟨S2048, .f32⟩
  | .hbm, ⟨9, _⟩ => ⟨S1x1024, .f32⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024x1024, .bf16⟩
  | .local _ .vmem, ⟨10, _⟩ => ⟨S1x2048x2048, .bf16⟩
  | .local _ .vmem, ⟨11, _⟩ => ⟨S512x2048, .f32⟩
  | .local _ .vmem, ⟨12, _⟩ => ⟨S512x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Final.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x6144 : Shape := ⟨2, ![8192, 6144]⟩
abbrev S16x15x31 : Shape := ⟨3, ![16, 15, 31]⟩
abbrev S4x2048x8192 : Shape := ⟨3, ![4, 2048, 8192]⟩
abbrev S4x8192x2048 : Shape := ⟨3, ![4, 8192, 2048]⟩
abbrev S8192x2048 : Shape := ⟨2, ![8192, 2048]⟩
abbrev S_ : Shape := ⟨0, ![]⟩
abbrev S8192x16x128 : Shape := ⟨3, ![8192, 16, 128]⟩
abbrev S16x8192x128 : Shape := ⟨3, ![16, 8192, 128]⟩
abbrev S128 : Shape := ⟨1, ![128]⟩
abbrev S64 : Shape := ⟨1, ![64]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S1x64 : Shape := ⟨2, ![1, 64]⟩
abbrev S64x1 : Shape := ⟨2, ![64, 1]⟩
abbrev S64x64 : Shape := ⟨2, ![64, 64]⟩
abbrev S16x128x64x128 : Shape := ⟨4, ![16, 128, 64, 128]⟩
abbrev S128x8x1 : Shape := ⟨3, ![128, 8, 1]⟩
abbrev S16x128x8x64x128 : Shape := ⟨5, ![16, 128, 8, 64, 128]⟩
abbrev S128x1x8x1 : Shape := ⟨4, ![128, 1, 8, 1]⟩
abbrev S1x64x1x64 : Shape := ⟨4, ![1, 64, 1, 64]⟩
abbrev S128x64x8x64 : Shape := ⟨4, ![128, 64, 8, 64]⟩
abbrev S128x64x8x64x1 : Shape := ⟨5, ![128, 64, 8, 64, 1]⟩
abbrev S128x64x8x64x2 : Shape := ⟨5, ![128, 64, 8, 64, 2]⟩
abbrev S16x128x64x8x64 : Shape := ⟨5, ![16, 128, 64, 8, 64]⟩
abbrev S64x1x64 : Shape := ⟨3, ![64, 1, 64]⟩
abbrev S16x128x64x512 : Shape := ⟨4, ![16, 128, 64, 512]⟩
abbrev S16x128x64 : Shape := ⟨3, ![16, 128, 64]⟩
abbrev S16x128x64x1 : Shape := ⟨4, ![16, 128, 64, 1]⟩
abbrev S16x128x512x128 : Shape := ⟨4, ![16, 128, 512, 128]⟩
abbrev S1x2048x8192 : Shape := ⟨3, ![1, 2048, 8192]⟩
abbrev S1x8192x2048 : Shape := ⟨3, ![1, 8192, 2048]⟩

abbrev nBuf : Space → Nat
  | .hbm => 177
  | .vmem => 0
  | .smem => 0
  | _ => 0

abbrev hbmTy0_0 (i : Nat) : BufTy := match i % 128 with
  | 0 => ⟨S8192x6144, .bf16⟩
  | 1 => ⟨S16x15x31, .f32⟩
  | 2 => ⟨S4x2048x8192, .f32⟩
  | 3 => ⟨S4x8192x2048, .f32⟩
  | 4 => ⟨S8192x6144, .f32⟩
  | 5 => ⟨S8192x2048, .f32⟩
  | 6 => ⟨S8192x2048, .f32⟩
  | 7 => ⟨S8192x2048, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S8192x2048, .f32⟩
  | 16 => ⟨S8192x2048, .f32⟩
  | 17 => ⟨S8192x16x128, .f32⟩
  | 18 => ⟨S16x8192x128, .f32⟩
  | 19 => ⟨S8192x16x128, .f32⟩
  | 20 => ⟨S16x8192x128, .f32⟩
  | 21 => ⟨S8192x16x128, .f32⟩
  | 22 => ⟨S16x8192x128, .f32⟩
  | 23 => ⟨S_, .f32⟩
  | 24 => ⟨S_, .f32⟩
  | 25 => ⟨S_, .f32⟩
  | 26 => ⟨S_, .f32⟩
  | 27 => ⟨S128, .i32⟩
  | 28 => ⟨S64, .i32⟩
  | 29 => ⟨S_, .i32⟩
  | 30 => ⟨S128, .i32⟩
  | 31 => ⟨S128, .i32⟩
  | 32 => ⟨S_, .i32⟩
  | 33 => ⟨S_, .i32⟩
  | 34 => ⟨S_, .i32⟩
  | 35 => ⟨S128, .i32⟩
  | 36 => ⟨S128, .i32⟩
  | 37 => ⟨S_, .i32⟩
  | 38 => ⟨S128, .i32⟩
  | 39 => ⟨S128, .i32⟩
  | 40 => ⟨S128x1, .i32⟩
  | 41 => ⟨S8, .i32⟩
  | 42 => ⟨S1x8, .i32⟩
  | 43 => ⟨S128x8, .i32⟩
  | 44 => ⟨S128x8, .i32⟩
  | 45 => ⟨S128x8, .i32⟩
  | 46 => ⟨S_, .i32⟩
  | 47 => ⟨S64, .i32⟩
  | 48 => ⟨S64, .i32⟩
  | 49 => ⟨S_, .i32⟩
  | 50 => ⟨S_, .i32⟩
  | 51 => ⟨S_, .i32⟩
  | 52 => ⟨S64, .i32⟩
  | 53 => ⟨S64, .i32⟩
  | 54 => ⟨S_, .i32⟩
  | 55 => ⟨S64, .i32⟩
  | 56 => ⟨S64, .i32⟩
  | 57 => ⟨S1x64, .i32⟩
  | 58 => ⟨S64x1, .i32⟩
  | 59 => ⟨S64x64, .i32⟩
  | 60 => ⟨S64x64, .i32⟩
  | 61 => ⟨S64x64, .i1⟩
  | 62 => ⟨S1x64, .i32⟩
  | 63 => ⟨S64x1, .i32⟩
  | 64 => ⟨S_, .i32⟩
  | 65 => ⟨S64x1, .i32⟩
  | 66 => ⟨S64x1, .i32⟩
  | 67 => ⟨S64x64, .i32⟩
  | 68 => ⟨S64x64, .i32⟩
  | 69 => ⟨S64x64, .i1⟩
  | 70 => ⟨S64x64, .i1⟩
  | 71 => ⟨S1x64, .i32⟩
  | 72 => ⟨S64x1, .i32⟩
  | 73 => ⟨S64x64, .i32⟩
  | 74 => ⟨S64x64, .i32⟩
  | 75 => ⟨S64x64, .i32⟩
  | 76 => ⟨S128x1, .i32⟩
  | 77 => ⟨S128x8, .i32⟩
  | 78 => ⟨S128x8, .i32⟩
  | 79 => ⟨S16x128x64x128, .f32⟩
  | 80 => ⟨S16x128x64x128, .f32⟩
  | 81 => ⟨S_, .i32⟩
  | 82 => ⟨S128x8, .i32⟩
  | 83 => ⟨S128x8, .i1⟩
  | 84 => ⟨S_, .i32⟩
  | 85 => ⟨S128x8, .i32⟩
  | 86 => ⟨S128x8, .i32⟩
  | 87 => ⟨S128x8, .i32⟩
  | 88 => ⟨S128x8x1, .i32⟩
  | 89 => ⟨S16x128x8x64x128, .f32⟩
  | 90 => ⟨S16x128x64x128, .f32⟩
  | 91 => ⟨S_, .i32⟩
  | 92 => ⟨S128x8, .i32⟩
  | 93 => ⟨S128x8, .i1⟩
  | 94 => ⟨S_, .i32⟩
  | 95 => ⟨S128x8, .i32⟩
  | 96 => ⟨S128x8, .i32⟩
  | 97 => ⟨S128x8, .i32⟩
  | 98 => ⟨S128x8x1, .i32⟩
  | 99 => ⟨S16x128x8x64x128, .f32⟩
  | 100 => ⟨S_, .i32⟩
  | 101 => ⟨S128x8, .i32⟩
  | 102 => ⟨S128x8, .i32⟩
  | 103 => ⟨S_, .i32⟩
  | 104 => ⟨S128x8, .i32⟩
  | 105 => ⟨S128x8, .i32⟩
  | 106 => ⟨S128x1x8x1, .i32⟩
  | 107 => ⟨S_, .i32⟩
  | 108 => ⟨S64x64, .i32⟩
  | 109 => ⟨S64x64, .i32⟩
  | 110 => ⟨S_, .i32⟩
  | 111 => ⟨S64x64, .i32⟩
  | 112 => ⟨S64x64, .i32⟩
  | 113 => ⟨S_, .i32⟩
  | 114 => ⟨S_, .i32⟩
  | 115 => ⟨S_, .i32⟩
  | 116 => ⟨S64x64, .i32⟩
  | 117 => ⟨S64x64, .i32⟩
  | 118 => ⟨S_, .i32⟩
  | 119 => ⟨S64x64, .i32⟩
  | 120 => ⟨S64x64, .i32⟩
  | 121 => ⟨S1x64x1x64, .i32⟩
  | 122 => ⟨S_, .i32⟩
  | 123 => ⟨S128x1x8x1, .i32⟩
  | 124 => ⟨S128x1x8x1, .i1⟩
  | 125 => ⟨S_, .i32⟩
  | 126 => ⟨S128x1x8x1, .i32⟩
  | 127 => ⟨S128x1x8x1, .i32⟩
  | _ => ⟨S8192x6144, .bf16⟩

abbrev hbmTy0_1 (i : Nat) : BufTy := match i % 128 with
  | 0 => ⟨S128x1x8x1, .i32⟩
  | 1 => ⟨S_, .i32⟩
  | 2 => ⟨S1x64x1x64, .i32⟩
  | 3 => ⟨S1x64x1x64, .i1⟩
  | 4 => ⟨S_, .i32⟩
  | 5 => ⟨S1x64x1x64, .i32⟩
  | 6 => ⟨S1x64x1x64, .i32⟩
  | 7 => ⟨S1x64x1x64, .i32⟩
  | 8 => ⟨S128x64x8x64, .i32⟩
  | 9 => ⟨S128x64x8x64, .i32⟩
  | 10 => ⟨S128x64x8x64x1, .i32⟩
  | 11 => ⟨S128x64x8x64x1, .i32⟩
  | 12 => ⟨S128x64x8x64x2, .i32⟩
  | 13 => ⟨S16x128x64x8x64, .f32⟩
  | 14 => ⟨S16x128x64x8x64, .f32⟩
  | 15 => ⟨S16x128x64x8x64, .f32⟩
  | 16 => ⟨S16x128x64x8x64, .f32⟩
  | 17 => ⟨S16x128x64x8x64, .f32⟩
  | 18 => ⟨S64x1x64, .i1⟩
  | 19 => ⟨S_, .f32⟩
  | 20 => ⟨S_, .f32⟩
  | 21 => ⟨S16x128x64x8x64, .i1⟩
  | 22 => ⟨S16x128x64x8x64, .f32⟩
  | 23 => ⟨S16x128x64x8x64, .f32⟩
  | 24 => ⟨S16x128x64x512, .f32⟩
  | 25 => ⟨S_, .f32⟩
  | 26 => ⟨S16x128x64, .f32⟩
  | 27 => ⟨S_, .f32⟩
  | 28 => ⟨S16x128x64, .f32⟩
  | 29 => ⟨S16x128x64, .f32⟩
  | 30 => ⟨S16x128x64x1, .f32⟩
  | 31 => ⟨S16x128x64x512, .f32⟩
  | 32 => ⟨S16x128x64x512, .f32⟩
  | 33 => ⟨S16x128x64x512, .f32⟩
  | 34 => ⟨S_, .f32⟩
  | 35 => ⟨S16x128x64, .f32⟩
  | 36 => ⟨S16x128x64x1, .f32⟩
  | 37 => ⟨S16x128x64x512, .f32⟩
  | 38 => ⟨S16x128x64x512, .f32⟩
  | 39 => ⟨S16x128x512x128, .f32⟩
  | 40 => ⟨S16x128x64x128, .f32⟩
  | 41 => ⟨S16x8192x128, .f32⟩
  | 42 => ⟨S8192x16x128, .f32⟩
  | 43 => ⟨S8192x2048, .f32⟩
  | 44 => ⟨S8192x2048, .bf16⟩
  | 45 => ⟨S1x2048x8192, .f32⟩
  | 46 => ⟨S1x2048x8192, .bf16⟩
  | 47 => ⟨S1x8192x2048, .f32⟩
  | 48 => ⟨S1x8192x2048, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_c_5 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_c_8 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_c_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_16 : Ref sig .tc := ⟨.hbm, 107, rfl⟩
abbrev main_v75 : Ref sig .tc := ⟨.hbm, 108, rfl⟩
abbrev main_v76 : Ref sig .tc := ⟨.hbm, 109, rfl⟩
abbrev main_c_17 : Ref sig .tc := ⟨.hbm, 110, rfl⟩
abbrev main_v77 : Ref sig .tc := ⟨.hbm, 111, rfl⟩
abbrev main_v78 : Ref sig .tc := ⟨.hbm, 112, rfl⟩
abbrev main_c_18 : Ref sig .tc := ⟨.hbm, 113, rfl⟩
abbrev main_c_19 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_v79 : Ref sig .tc := ⟨.hbm, 120, rfl⟩
abbrev main_v80 : Ref sig .tc := ⟨.hbm, 121, rfl⟩
abbrev main_c_20 : Ref sig .tc := ⟨.hbm, 122, rfl⟩
abbrev main_v81 : Ref sig .tc := ⟨.hbm, 123, rfl⟩
abbrev main_v82 : Ref sig .tc := ⟨.hbm, 124, rfl⟩
abbrev main_c_21 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_22 : Ref sig .tc := ⟨.hbm, 129, rfl⟩
abbrev main_v86 : Ref sig .tc := ⟨.hbm, 130, rfl⟩
abbrev main_v87 : Ref sig .tc := ⟨.hbm, 131, rfl⟩
abbrev main_c_23 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_24 : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_v102 : Ref sig .tc := ⟨.hbm, 151, rfl⟩
abbrev main_v103 : Ref sig .tc := ⟨.hbm, 152, rfl⟩
abbrev main_cst_25 : Ref sig .tc := ⟨.hbm, 153, rfl⟩
abbrev main_v104 : Ref sig .tc := ⟨.hbm, 154, rfl⟩
abbrev main_cst_26 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_27 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩

abbrev nD : Nat := 1
abbrev τ : Topo := Topo.v7x

variable {F : FTy → Type} [FloatOps F]
-- ==== MlpReferenceIdeal.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S1x2048x8192, .bf16⟩
  | .hbm, ⟨3, _⟩ => ⟨S1x8192x2048, .bf16⟩
  | .hbm, ⟨4, _⟩ => ⟨S8192x2048, .f32⟩
  | .hbm, ⟨5, _⟩ => ⟨S2048x8192, .bf16⟩
  | .hbm, ⟨6, _⟩ => ⟨S2048x8192, .f32⟩
  | .hbm, ⟨7, _⟩ => ⟨S8192x2048, .bf16⟩
  | .hbm, ⟨8, _⟩ => ⟨S8192x2048, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x2048, .f32⟩
  | .hbm, ⟨15, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== QkvReferenceIdeal.lean ====
abbrev S8192x2048 : Shape := ⟨2, ![8192, 2048]⟩
abbrev S2048 : Shape := ⟨1, ![2048]⟩
abbrev S1x2048x6144 : Shape := ⟨3, ![1, 2048, 6144]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x6144 : Shape := ⟨2, ![2048, 6144]⟩
abbrev S8192x6144 : Shape := ⟨2, ![8192, 6144]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x6144, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x6144, .bf16⟩
  | .hbm, ⟨20, _⟩ => ⟨S2048x6144, .f32⟩
  | .hbm, ⟨21, _⟩ => ⟨S8192x6144, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x6144, .f32⟩
  | .hbm, ⟨35, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== ProjReferenceIdeal.lean ====
abbrev S8192x2048 : Shape := ⟨2, ![8192, 2048]⟩
abbrev S2048 : Shape := ⟨1, ![2048]⟩
abbrev S1x2048x4096 : Shape := ⟨3, ![1, 2048, 4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x4096 : Shape := ⟨2, ![2048, 4096]⟩
abbrev S8192x4096 : Shape := ⟨2, ![8192, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x4096, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x4096, .bf16⟩
  | .hbm, ⟨20, _⟩ => ⟨S2048x4096, .f32⟩
  | .hbm, ⟨21, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OutReferenceIdeal.lean ====
abbrev S8192x2048 : Shape := ⟨2, ![8192, 2048]⟩
abbrev S1x2048x2048 : Shape := ⟨3, ![1, 2048, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S2048x2048, .bf16⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== GluReferenceIdeal.lean ====
abbrev S8192x1024 : Shape := ⟨2, ![8192, 1024]⟩
abbrev S8192x4096 : Shape := ⟨2, ![8192, 4096]⟩
abbrev S1024 : Shape := ⟨1, ![1024]⟩
abbrev S2x1024x1024 : Shape := ⟨3, ![2, 1024, 1024]⟩
abbrev S1x2048x2048 : Shape := ⟨3, ![1, 2048, 2048]⟩
abbrev S8192x2048 : Shape := ⟨2, ![8192, 2048]⟩
abbrev S2048 : Shape := ⟨1, ![2048]⟩
abbrev S1x1024 : Shape := ⟨2, ![1, 1024]⟩
abbrev S_ : Shape := ⟨0, ![]⟩
abbrev S1x1024x1024 : Shape := ⟨3, ![1, 1024, 1024]⟩
abbrev S1024x1024 : Shape := ⟨2, ![1024, 1024]⟩
abbrev S2048x2048 : Shape := ⟨2, ![2048, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S8192x4096, .f32⟩
  | .hbm, ⟨4, _⟩ => ⟨S1024, .f32⟩
  | .hbm, ⟨5, _⟩ => ⟨S2x1024x1024, .bf16⟩
  | .hbm, ⟨6, _⟩ => ⟨S1x2048x2048, .bf16⟩
  | .hbm, ⟨7, _⟩ => ⟨S8192x2048, .f32⟩
  | .hbm, ⟨8, _⟩ => ⟨S2048, .f32⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024x1024, .bf16⟩
  | .hbm, ⟨33, _⟩ => ⟨S1024x1024, .bf16⟩
  | .hbm, ⟨34, _⟩ => ⟨S1024x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x2048, .f32⟩
  | .hbm, ⟨47, _⟩ => ⟨S2048x2048, .bf16⟩
  | .hbm, ⟨48, _⟩ => ⟨S2048x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x2048, .f32⟩
  | .hbm, ⟨63, _⟩ => ⟨S8192x2048, .f32⟩
  | .hbm, ⟨64, _⟩ => ⟨S1x2048, .f32⟩
  | .hbm, ⟨65, _⟩ => ⟨S8192x2048, .f32⟩
  | .hbm, ⟨66, _⟩ => ⟨S8192x2048, .f32⟩
  | .hbm, ⟨67, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== FinalReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Consts.lean ====
/- The values of the literals of the programs that the proofs read, as extended reals. -/
module

public import Idealize.ShloMosaic.PureOps.Ideal

@[expose] public section

noncomputable section

namespace Cert.Consts

open Idealize.ShloMosaic

/-- The word of 128. -/
theorem ofBits_128 : Ideal.ofBits .f32 0x43000000#32 = ((128 : ℝ) : EReal) := by
  simp [Ideal.ofBits, Ideal.ieee, -EReal.coe_mul]; norm_num

/-- The word of 2. -/
theorem ofBits_2 : Ideal.ofBits .f32 0x40000000#32 = ((2 : ℝ) : EReal) := by
  simp [Ideal.ofBits, Ideal.ieee, -EReal.coe_mul]; norm_num

/-- The word of −∞. -/
theorem ofBits_neg_inf : Ideal.ofBits .f32 0xFF800000#32 = (⊥ : EReal) := by
  simp [Ideal.ofBits, Ideal.ieee, -EReal.coe_mul]

/-- The word of +∞. -/
theorem ofBits_inf : Ideal.ofBits .f32 0x7F800000#32 = (⊤ : EReal) := by
  simp [Ideal.ofBits, Ideal.ieee, -EReal.coe_mul]

end Cert.Consts

end
-- ==== Proof.NattenBias.lean ====
module

public import proofs.«01_k».proof.Defs
public import proofs.«01_k».proof.Proof.Consts
public import proofs.«01_k».proof.Proof.Gen.KernelIdeal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

namespace Cert.KernelProof

open Cert.KernelIdeal Cert.KernelIdeal.Gen Idealize.ShloMosaic Idealize.ShloMosaic.TcCoe Idealize.SL.Sem

variable (m : (ℓ : Loc nD τ sig) → Buf (Elt Ideal) ℓ)

/-- Entries of a rank-two array at equal places are equal. -/
theorem at2 {m n : ℕ} (X : (⟨2, ![m, n]⟩ : Shape).Idx → EReal) {a a' : Fin m} {b b' : Fin n} (h0 : a.val = a'.val)
    (h1 : b.val = b'.val) : X (ix2 a b) = X (ix2 a' b') := by rw [Fin.ext h0, Fin.ext h1]

/-- Entries of a rank-three array at equal places are equal. -/
theorem at3 {l m n : ℕ} (X : (⟨3, ![l, m, n]⟩ : Shape).Idx → EReal) {a a' : Fin l} {b b' : Fin m} {c c' : Fin n}
    (h0 : a.val = a'.val) (h1 : b.val = b'.val) (h2 : c.val = c'.val) : X (ix3 a b c) = X (ix3 a' b' c') := by
  rw [Fin.ext h0, Fin.ext h1, Fin.ext h2]

/-- Entries of a rank-four array at equal places are equal. -/
theorem at4 {k l m n : ℕ} (X : (⟨4, ![k, l, m, n]⟩ : Shape).Idx → EReal) {a a' : Fin k} {b b' : Fin l} {c c' : Fin m}
    {e e' : Fin n} (h0 : a.val = a'.val) (h1 : b.val = b'.val) (h2 : c.val = c'.val) (h3 : e.val = e'.val) :
    X (ix4 a b c e) = X (ix4 a' b' c' e') := by rw [Fin.ext h0, Fin.ext h1, Fin.ext h2, Fin.ext h3]

/-- The bias tables the first point of a head pair makes: pair table entry plus mask, to base 2. -/
def biasOf (P : S2x22x64x128.Idx → EReal) (M : S3x256x768.Idx → EReal) (y : S2x3x256x768.Idx) : EReal :=
  (P (ix4 (y 0) ⟨2 * ((y 3).val / 128 + 2 * (2 - (y 1).val)) + 3 - (y 2).val / 64, by
      have : (y 3).val < 768 := (y 3).isLt
      omega⟩ ⟨(y 2).val % 64, by omega⟩ ⟨(y 3).val % 128, by omega⟩)
    + M (ix3 (y 1) (y 2) (y 3))) * Named.named (F := Ideal) κ "log2e" (φ := .f32) 1069066811#32

set_option maxHeartbeats 4000000 in
/-- At the first point of a head pair the scratch is left holding the bias tables. -/
theorem biasA (c : Dev nD) (t : Fin cfg0.N) (hh : t.val % 4 = 0) : (outsAt0 m c t.val t.isLt).2.2.2 =
    biasOf (iblk m c 3 t) (iblk m c 4 t) := by
  rw [outsAt0_A m c t hh]
  frame_out
  funext y
  canon_tiles x h
  all_goals
    unfold_payloads; idx_vars x; pointwise []
    refine congrArg₂ (fun a b : EReal => (a + b) * Named.named (F := Ideal) κ "log2e" (φ := .f32) 1069066811#32)
      (at4 (iblk m c 3 t) ?_ ?_ ?_ ?_) (at3 (iblk m c 4 t) ?_ ?_ ?_) <;> first | omega | (dsimp only [Fin.val_ofNat]; omega)

end Cert.KernelProof
-- ==== Proof.NattenBlock.lean ====
module

public import proofs.«01_k».proof.Defs
public import proofs.«01_k».proof.Proof.Consts
public import proofs.«01_k».proof.Proof.Gen.KernelIdeal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise
public import proofs.«01_k».proof.Proof.NattenBias

@[expose] public section

set_option maxRecDepth 16384

noncomputable section

namespace Cert.KernelProof

open Cert.KernelIdeal Cert.KernelIdeal.Gen Idealize.ShloMosaic Idealize.ShloMosaic.TcCoe Idealize.SL.Sem

variable (m : (ℓ : Loc nD τ sig) → Buf (Elt Ideal) ℓ)

/-- The first image row of the twelve key rows that the row group `g` reads. -/
def keyRow (g : ℕ) : ℕ := min (4 * g - 4) 116

/-- The window of keys ends within the image. -/
theorem keyRow_le (g : ℕ) : keyRow g ≤ 116 := Nat.min_le_right _ _

/-- Which of the three bias tables the row group `g` takes: the first group, an inner one, the last. -/
def tableOf (g : ℕ) : ℕ := if g = 0 then 0 else if g = 31 then 2 else 1

/-- There are three tables. -/
theorem tableOf_lt (g : ℕ) : tableOf g < 3 := by unfold tableOf; split_ifs <;> decide

/-- One query's attention over scores `s` (to base 2) and values `v`. -/
def attn (s v : Fin 768 → EReal) : EReal :=
  Ideal.div (∑ k, Ideal.exp2 (s k - Finset.univ.fold max ⊥ s) * v k)
    (∑ k, Ideal.exp2 (s k - Finset.univ.fold max ⊥ s))

/-- The scores of one query of a block: head `hh` of the pair, row group `g`, the query at row `r` of the block. -/
def scores (Q : S2048x256.Idx → EReal) (K : S8192x256.Idx → EReal) (B : S2x3x256x768.Idx → EReal) (g hh r : ℕ)
    (h : hh < 2) (hr : r < 2048) : Fin 768 → EReal := fun k =>
  (∑ e : Fin 128, Q (ix2 ⟨r, hr⟩ ⟨hh * 128 + e.val, by have := e.isLt; omega⟩)
      * K (ix2 ⟨64 * keyRow g + k.val, by have := keyRow_le g; have := k.isLt; omega⟩ ⟨hh * 128 + e.val, by have := e.isLt; omega⟩))
    + B (ix4 ⟨hh, h⟩ ⟨tableOf g, tableOf_lt g⟩ ⟨r % 256, by omega⟩ k)

/-- What a grid point leaves in its block of the output, from the blocks it reads and the bias tables; `gs` is its place
    among the four points of its head pair. -/
def blockOut (Q : S2048x256.Idx → EReal) (K V : S8192x256.Idx → EReal) (B : S2x3x256x768.Idx → EReal) (gs : ℕ)
    (y : S2048x256.Idx) : EReal :=
  attn (scores Q K B (8 * gs + (y 0).val / 256) ((y 1).val / 128) (y 0).val
      (by have h : (y 1).val < 256 := (y 1).isLt; omega) (y 0).isLt)
    fun k => V (ix2 ⟨64 * keyRow (8 * gs + (y 0).val / 256) + k.val, by have := keyRow_le (8 * gs + (y 0).val / 256); have := k.isLt; omega⟩ (y 1))

/-- Where the loads at a grid point start: the rows of the keys and the bias table. -/
theorem starts_all : ∀ (t : Fin 32) (i : Fin 8),
    k0_off1 (grid0.coords t) (BitVec.ofNat 32 i.val) 0 = 64 * keyRow (8 * (t.val % 4) + i.val)
    ∧ k0_off1 (grid0.coords t) (BitVec.ofNat 32 i.val) 1 = 0
    ∧ k0_off2 (grid0.coords t) (BitVec.ofNat 32 i.val) 0 = 0
    ∧ k0_off2 (grid0.coords t) (BitVec.ofNat 32 i.val) 1 = tableOf (8 * (t.val % 4) + i.val)
    ∧ k0_off2 (grid0.coords t) (BitVec.ofNat 32 i.val) 2 = 0
    ∧ k0_off2 (grid0.coords t) (BitVec.ofNat 32 i.val) 3 = 0
    ∧ k0_off3 (grid0.coords t) (BitVec.ofNat 32 i.val) 0 = 64 * keyRow (8 * (t.val % 4) + i.val)
    ∧ k0_off3 (grid0.coords t) (BitVec.ofNat 32 i.val) 1 = 128
    ∧ k0_off4 (grid0.coords t) (BitVec.ofNat 32 i.val) 0 = 1
    ∧ k0_off4 (grid0.coords t) (BitVec.ofNat 32 i.val) 1 = tableOf (8 * (t.val % 4) + i.val)
    ∧ k0_off4 (grid0.coords t) (BitVec.ofNat 32 i.val) 2 = 0
    ∧ k0_off4 (grid0.coords t) (BitVec.ofNat 32 i.val) 3 = 0 := by decide +kernel

/-- The same, for a word that counts a row group of the block. -/
theorem starts (t : Fin cfg0.N) (w : BitVec 32) (hw : w.toNat < 8) :
    k0_off1 (grid0.coords t) w 0 = 64 * keyRow (8 * (t.val % 4) + w.toNat)
    ∧ k0_off1 (grid0.coords t) w 1 = 0
    ∧ k0_off2 (grid0.coords t) w 0 = 0
    ∧ k0_off2 (grid0.coords t) w 1 = tableOf (8 * (t.val % 4) + w.toNat)
    ∧ k0_off2 (grid0.coords t) w 2 = 0
    ∧ k0_off2 (grid0.coords t) w 3 = 0
    ∧ k0_off3 (grid0.coords t) w 0 = 64 * keyRow (8 * (t.val % 4) + w.toNat)
    ∧ k0_off3 (grid0.coords t) w 1 = 128
    ∧ k0_off4 (grid0.coords t) w 0 = 1
    ∧ k0_off4 (grid0.coords t) w 1 = tableOf (8 * (t.val % 4) + w.toNat)
    ∧ k0_off4 (grid0.coords t) w 2 = 0
    ∧ k0_off4 (grid0.coords t) w 3 = 0 := by
  obtain ⟨n, hn, rfl⟩ : ∃ n, ∃ _ : n < 8, w = BitVec.ofNat 32 n := ⟨w.toNat, hw, by simp⟩
  rw [show (BitVec.ofNat 32 n).toNat = n from Nat.mod_eq_of_lt (by omega)]
  exact starts_all t ⟨n, hn⟩

/-- Equal row groups read keys from equal rows on. -/
theorem keys_start {a b k : ℕ} (h : a = b) : 64 * keyRow a + k = 64 * keyRow b + k := h ▸ rfl

/-- Equal row groups take equal bias tables. -/
theorem table_eq {a b : ℕ} (h : a = b) : tableOf a = tableOf b := h ▸ rfl

/-- One piece of the output, from any queries, keys, values and biases that are those of the blocks. -/
theorem piece_eq (Q : S2048x256.Idx → EReal) (K V : S8192x256.Idx → EReal) (B : S2x3x256x768.Idx → EReal) (gs : ℕ)
    (y : S2048x256.Idx) (g hh : ℕ) (h : hh < 2) (hg : 8 * gs + (y 0).val / 256 = g) (hy : (y 1).val / 128 = hh)
    (q : Fin 128 → EReal) (k : Fin 768 → Fin 128 → EReal) (v b : Fin 768 → EReal)
    (hq : ∀ e : Fin 128, q e = Q (ix2 (y 0) ⟨hh * 128 + e.val, by have := e.isLt; omega⟩))
    (hk : ∀ (κ : Fin 768) (e : Fin 128), k κ e = K (ix2 ⟨64 * keyRow g + κ.val, by have := keyRow_le g; have := κ.isLt; omega⟩
      ⟨hh * 128 + e.val, by have := e.isLt; omega⟩))
    (hb : ∀ κ : Fin 768, b κ = B (ix4 ⟨hh, h⟩ ⟨tableOf g, tableOf_lt g⟩ ⟨(y 0).val % 256, by omega⟩ κ))
    (hv : ∀ κ : Fin 768, v κ = V (ix2 ⟨64 * keyRow g + κ.val, by have := keyRow_le g; have := κ.isLt; omega⟩ (y 1))) :
    Ideal.div
      (∑ x, FloatOps.exp2 (F := Ideal) (φ := .f32) ((∑ e, q e * k x e) + b x - Finset.fold max (Ideal.ofBits FTy.f32 4286578688#32) (fun x => (∑ e, q e * k x e) + b x) Finset.univ) * v x)
      (∑ x, FloatOps.exp2 (F := Ideal) (φ := .f32) ((∑ e, q e * k x e) + b x - Finset.fold max (Ideal.ofBits FTy.f32 4286578688#32) (fun x => (∑ e, q e * k x e) + b x) Finset.univ))
      = blockOut Q K V B gs y := by
  subst hg hy
  obtain rfl : q = _ := funext hq
  obtain rfl : k = _ := funext fun κ => funext (hk κ)
  obtain rfl : b = _ := funext hb
  obtain rfl : v = _ := funext hv
  rw [Cert.Consts.ofBits_neg_inf]
  rfl

set_option maxHeartbeats 4000000 in
/-- What a later point of a head pair leaves in its block of the output, over the bias tables it finds. -/
theorem outB (c : Dev nD) (t : Fin cfg0.N) (hh : ¬ t.val % 4 = 0) (y) : (outsAt0 m c t.val t.isLt).1 y =
    blockOut (iblk m c 0 t) (iblk m c 1 t) (iblk m c 2 t) (outsAt0 m c (t.val - 1) (by have := t.isLt; omega)).2.2.2 (t.val % 4) y := by
  rw [outsAt0_B m c t hh]
  frame_open
  simp (disch := decide) only [↓ View.readCov_skip, ↓ View.readCov_cons_toLoadRect, ↓ View.readCov_fill]
  frame_out
  simp only [read_unread_whole]
  generalize (outsAt0 m c (↑t - 1) _).2.2.2 = B
  canon_tiles x h
  all_goals
    unfold_payloads; idx_vars x; pointwise []
    refine piece_eq _ _ _ B (t.val % 4) y _ _ (by omega) rfl rfl _ _ _ _
      (fun e => at2 (iblk m c 0 t) ?_ ?_) (fun κ e => at2 (iblk m c 1 t) ?_ ?_) (fun κ => at4 B ?_ ?_ ?_ ?_)
      (fun κ => at2 (iblk m c 2 t) ?_ ?_) <;> dsimp only <;> first
        | omega
        | rfl
        | (simp (disch := decide) only [starts, BitVec.reduceToNat]
           first
             | omega
             | exact keys_start (by omega)
             | exact table_eq (by omega))

set_option maxHeartbeats 4000000 in
/-- What the first point of a head pair leaves in its block of the output, over the bias tables it makes. -/
theorem outA (c : Dev nD) (t : Fin cfg0.N) (hh : t.val % 4 = 0) (y) : (outsAt0 m c t.val t.isLt).1 y =
    blockOut (iblk m c 0 t) (iblk m c 1 t) (iblk m c 2 t) (biasOf (iblk m c 3 t) (iblk m c 4 t)) (t.val % 4) y := by
  have hs := biasA m c t hh
  rw [outsAt0_A m c t hh] at hs ⊢
  frame_out at hs
  frame_open
  simp (disch := decide) only [↓ View.readCov_skip, ↓ View.readCov_cons_toLoadRect, ↓ View.readCov_fill]
  frame_out
  rw [hs]
  clear hs
  generalize biasOf (iblk m c 3 t) (iblk m c 4 t) = B
  canon_tiles x h
  all_goals
    unfold_payloads; idx_vars x; pointwise []
    refine piece_eq _ _ _ B (t.val % 4) y _ _ (by omega) rfl rfl _ _ _ _
      (fun e => at2 (iblk m c 0 t) ?_ ?_) (fun κ e => at2 (iblk m c 1 t) ?_ ?_) (fun κ => at4 B ?_ ?_ ?_ ?_)
      (fun κ => at2 (iblk m c 2 t) ?_ ?_) <;> dsimp only <;> first
        | omega
        | rfl
        | (simp (disch := decide) only [starts, BitVec.reduceToNat]
           first
             | omega
             | exact keys_start (by omega)
             | exact table_eq (by omega))

/-- At the other points the scratch is handed on as it was. -/
theorem biasB (c : Dev nD) (t : Fin cfg0.N) (hh : ¬ t.val % 4 = 0) : (outsAt0 m c t.val t.isLt).2.2.2 =
    (outsAt0 m c (t.val - 1) (by have := t.isLt; omega)).2.2.2 := by
  rw [outsAt0_B m c t hh]
  rfl

/-- The bias tables hold through the four points of a head pair. -/
theorem held (c : Dev nD) (t : Fin cfg0.N) :
    (outsAt0 m c t.val t.isLt).2.2.2
      = biasOf (iblk m c 3 ⟨4 * (t.val / 4), Pipeline.run_start_lt t⟩) (iblk m c 4 ⟨4 * (t.val / 4), Pipeline.run_start_lt t⟩) :=
  Pipeline.eq_of_write_hold (fun n h => (outsAt0 m c n h).2.2.2) 4 (fun t => biasOf (iblk m c 3 t) (iblk m c 4 t))
    (fun t h => biasA m c t h) (fun t h => biasB m c t h) t

/-- What a point writes to the output, over the blocks it reads and the bias tables made at the first point of its head pair. -/
theorem out (c : Dev nD) (t : Fin cfg0.N) (y : S2048x256.Idx) : (outsAt0 m c t.val t.isLt).1 y =
    blockOut (iblk m c 0 t) (iblk m c 1 t) (iblk m c 2 t)
      (biasOf (iblk m c 3 ⟨4 * (t.val / 4), Pipeline.run_start_lt t⟩) (iblk m c 4 ⟨4 * (t.val / 4), Pipeline.run_start_lt t⟩))
      (t.val % 4) y := by
  by_cases h : t.val % 4 = 0
  · rw [outA m c t h, ← biasA m c t h, held m c t]
  · have ht := t.isLt
    rw [outB m c t h, ← biasB m c t h, held m c t]

end Cert.KernelProof
-- ==== Proof.NattenHost.lean ====
module

public import proofs.«01_k».proof.Defs
public import proofs.«01_k».proof.Proof.Consts
public import proofs.«01_k».proof.Proof.Gen.KernelIdeal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

namespace Cert.KernelProof

open Cert.KernelIdeal Cert.KernelIdeal.Gen Idealize.ShloMosaic Idealize.ShloMosaic.TcCoe Idealize.SL.Sem

variable (m : (ℓ : Loc nD τ sig) → Buf (Elt Ideal) ℓ)

/-- The region's entry contents: the host lines one after the other. -/
theorem V_eq (c : Dev nD) (b : Ref sig .tc) : V m c b =
    StableHlo.after hostOps0_12 (StableHlo.after hostOps0_11 (StableHlo.after hostOps0_10 (StableHlo.after hostOps0_9
      (StableHlo.after hostOps0_8 (StableHlo.after hostOps0_7 (StableHlo.after hostOps0_6 (StableHlo.after hostOps0_5
      (StableHlo.after hostOps0_4 (StableHlo.after hostOps0_3 (StableHlo.after hostOps0_2 (StableHlo.after hostOps0_1
      (StableHlo.after hostOps0 (fun b => m (c, b)))))))))))))) (Proc.devRef .tc b) := by
  unfold V
  simp only [List.flatten_cons, List.flatten_nil, StableHlo.after_append, List.append_nil]

set_option maxHeartbeats 4000000 in
theorem line0_v0 (σ : Valuation τ sig (Elt Ideal)) : StableHlo.after hostOps0 σ (Proc.devRef .tc main_v0) = iotaInDim S4x64x12x64 32 0 := by
  entry_read
  rfl

set_option maxHeartbeats 4000000 in
theorem line0_v1 (σ : Valuation τ sig (Elt Ideal)) : StableHlo.after hostOps0 σ (Proc.devRef .tc main_v1) = iotaInDim S4x64x12x64 32 1 := by
  entry_read
  rfl

set_option maxHeartbeats 4000000 in
theorem line0_v2 (σ : Valuation τ sig (Elt Ideal)) : StableHlo.after hostOps0 σ (Proc.devRef .tc main_v2) = iotaInDim S4x64x12x64 32 2 := by
  entry_read
  rfl

set_option maxHeartbeats 4000000 in
theorem line0_v3 (σ : Valuation τ sig (Elt Ideal)) : StableHlo.after hostOps0 σ (Proc.devRef .tc main_v3) = iotaInDim S4x64x12x64 32 3 := by
  entry_read
  rfl

set_option maxHeartbeats 4000000 in
theorem line0_v5 (σ : Valuation τ sig (Elt Ideal)) : StableHlo.after hostOps0 σ (Proc.devRef .tc main_v5) = subi (iotaInDim S4x64x12x64 32 1) (broadcastInDim S4x64x12x64 ![] bcast_S_S4x64x12x64 (constantI S_ 32 8#32)) := by
  entry_read
  rfl

set_option maxHeartbeats 4000000 in
theorem line0_c_0 (σ : Valuation τ sig (Elt Ideal)) : StableHlo.after hostOps0 σ (Proc.devRef .tc main_c_0) = (constantI S_ 32 0#32) := by
  entry_read
  rfl

set_option maxHeartbeats 4000000 in
theorem line0_c_1 (σ : Valuation τ sig (Elt Ideal)) : StableHlo.after hostOps0 σ (Proc.devRef .tc main_c_1) = (constantI S_ 32 48#32) := by
  entry_read
  rfl

set_option maxHeartbeats 4000000 in
theorem line0_arg1 (σ : Valuation τ sig (Elt Ideal)) : StableHlo.after hostOps0 σ (Proc.devRef .tc main_arg1) = (σ (Proc.devRef .tc main_arg1)) := by
  entry_read
  rfl

set_option maxHeartbeats 4000000 in
theorem line1_v6 (σ : Valuation τ sig (Elt Ideal)) : StableHlo.after hostOps0_1 σ (Proc.devRef .tc main_v6) = minsi (broadcastInDim S4x64x12x64 ![] bcast_S_S4x64x12x64 (σ (Proc.devRef .tc main_c_1))) (maxsi (broadcastInDim S4x64x12x64 ![] bcast_S_S4x64x12x64 (σ (Proc.devRef .tc main_c_0))) (σ (Proc.devRef .tc main_v5))) := by
  entry_read
  rfl

set_option maxHeartbeats 4000000 in
theorem line1_v0 (σ : Valuation τ sig (Elt Ideal)) : StableHlo.after hostOps0_1 σ (Proc.devRef .tc main_v0) = (σ (Proc.devRef .tc main_v0)) := by
  entry_read
  rfl

set_option maxHeartbeats 4000000 in
theorem line1_v2 (σ : Valuation τ sig (Elt Ideal)) : StableHlo.after hostOps0_1 σ (Proc.devRef .tc main_v2) = (σ (Proc.devRef .tc main_v2)) := by
  entry_read
  rfl

set_option maxHeartbeats 4000000 in
theorem line1_v3 (σ : Valuation τ sig (Elt Ideal)) : StableHlo.after hostOps0_1 σ (Proc.devRef .tc main_v3) = (σ (Proc.devRef .tc main_v3)) := by
  entry_read
  rfl

set_option maxHeartbeats 4000000 in
theorem line1_arg1 (σ : Valuation τ sig (Elt Ideal)) : StableHlo.after hostOps0_1 σ (Proc.devRef .tc main_arg1) = (σ (Proc.devRef .tc main_arg1)) := by
  entry_read
  rfl

set_option maxHeartbeats 4000000 in
theorem line2_v11 (σ : Valuation τ sig (Elt Ideal)) : StableHlo.after hostOps0_2 σ (Proc.devRef .tc main_v11) = andi (cmpi .sge (σ (Proc.devRef .tc main_v3)) (σ (Proc.devRef .tc main_v6))) (cmpi .slt (σ (Proc.devRef .tc main_v3)) (addi (σ (Proc.devRef .tc main_v6)) (broadcastInDim S4x64x12x64 ![] bcast_S_S4x64x12x64 (constantI S_ 32 16#32)))) := by
  entry_read
  rfl

set_option maxHeartbeats 4000000 in
theorem line2_v21 (σ : Valuation τ sig (Elt Ideal)) : StableHlo.after hostOps0_2 σ (Proc.devRef .tc main_v21) = andi (cmpi .sge (σ (Proc.devRef .tc main_v2)) (σ (Proc.devRef .tc main_v0))) (cmpi .slt (σ (Proc.devRef .tc main_v2)) (addi (σ (Proc.devRef .tc main_v0)) (broadcastInDim S4x64x12x64 ![] bcast_S_S4x64x12x64 (constantI S_ 32 8#32)))) := by
  entry_read
  rfl

set_option maxHeartbeats 4000000 in
theorem line2_v26 (σ : Valuation τ sig (Elt Ideal)) : StableHlo.after hostOps0_2 σ (Proc.devRef .tc main_v26) = andi (cmpi .sge (σ (Proc.devRef .tc main_v2)) (broadcastInDim S4x64x12x64 ![] bcast_S_S4x64x12x64 (constantI S_ 32 4#32))) (cmpi .sge (σ (Proc.devRef .tc main_v0)) (broadcastInDim S4x64x12x64 ![] bcast_S_S4x64x12x64 (constantI S_ 32 0#32))) := by
  entry_read
  rfl

set_option maxHeartbeats 4000000 in
theorem line2_v27 (σ : Valuation τ sig (Elt Ideal)) : StableHlo.after hostOps0_2 σ (Proc.devRef .tc main_v27) = andi (andi (cmpi .slt (σ (Proc.devRef .tc main_v2)) (broadcastInDim S4x64x12x64 ![] bcast_S_S4x64x12x64 (constantI S_ 32 8#32))) (cmpi .sge (σ (Proc.devRef .tc main_v0)) (broadcastInDim S4x64x12x64 ![] bcast_S_S4x64x12x64 (constantI S_ 32 0#32)))) (andi (cmpi .sge (σ (Proc.devRef .tc main_v3)) (σ (Proc.devRef .tc main_v6))) (cmpi .slt (σ (Proc.devRef .tc main_v3)) (addi (σ (Proc.devRef .tc main_v6)) (broadcastInDim S4x64x12x64 ![] bcast_S_S4x64x12x64 (constantI S_ 32 16#32))))) := by
  entry_read
  rfl

set_option maxHeartbeats 4000000 in
theorem line2_cst (σ : Valuation τ sig (Elt Ideal)) : StableHlo.after hostOps0_2 σ (Proc.devRef .tc main_cst) = (constant (F := Ideal) S_ .f32 0x00000000#32) := by
  entry_read
  rfl

set_option maxHeartbeats 4000000 in
theorem line2_cst_8 (σ : Valuation τ sig (Elt Ideal)) : StableHlo.after hostOps0_2 σ (Proc.devRef .tc main_cst_8) = (constant (F := Ideal) S_ .f32 0xFF800000#32) := by
  entry_read
  rfl

set_option maxHeartbeats 4000000 in
theorem line2_arg1 (σ : Valuation τ sig (Elt Ideal)) : StableHlo.after hostOps0_2 σ (Proc.devRef .tc main_arg1) = (σ (Proc.devRef .tc main_arg1)) := by
  entry_read
  rfl

set_option maxHeartbeats 4000000 in
theorem line3_v28 (σ : Valuation τ sig (Elt Ideal)) : StableHlo.after hostOps0_3 σ (Proc.devRef .tc main_v28) = select (σ (Proc.devRef .tc main_v27)) (broadcastInDim S4x64x12x64 ![] bcast_S_S4x64x12x64 (σ (Proc.devRef .tc main_cst))) (broadcastInDim S4x64x12x64 ![] bcast_S_S4x64x12x64 (σ (Proc.devRef .tc main_cst_8))) := by
  entry_read
  rfl

set_option maxHeartbeats 4000000 in
theorem line3_v11 (σ : Valuation τ sig (Elt Ideal)) : StableHlo.after hostOps0_3 σ (Proc.devRef .tc main_v11) = (σ (Proc.devRef .tc main_v11)) := by
  entry_read
  rfl

set_option maxHeartbeats 4000000 in
theorem line3_v21 (σ : Valuation τ sig (Elt Ideal)) : StableHlo.after hostOps0_3 σ (Proc.devRef .tc main_v21) = (σ (Proc.devRef .tc main_v21)) := by
  entry_read
  rfl

set_option maxHeartbeats 4000000 in
theorem line3_v26 (σ : Valuation τ sig (Elt Ideal)) : StableHlo.after hostOps0_3 σ (Proc.devRef .tc main_v26) = (σ (Proc.devRef .tc main_v26)) := by
  entry_read
  rfl

set_option maxHeartbeats 4000000 in
theorem line3_arg1 (σ : Valuation τ sig (Elt Ideal)) : StableHlo.after hostOps0_3 σ (Proc.devRef .tc main_arg1) = (σ (Proc.devRef .tc main_arg1)) := by
  entry_read
  rfl

set_option maxHeartbeats 4000000 in
theorem line4_v29 (σ : Valuation τ sig (Elt Ideal)) : StableHlo.after hostOps0_4 σ (Proc.devRef .tc main_v29) = shapeCast S256x768 (σ (Proc.devRef .tc main_v28)) shapeCasts_S4x64x12x64_S256x768 := by
  entry_read
  rfl

set_option maxHeartbeats 4000000 in
theorem line4_v30 (σ : Valuation τ sig (Elt Ideal)) : StableHlo.after hostOps0_4 σ (Proc.devRef .tc main_v30) = andi (σ (Proc.devRef .tc main_v21)) (σ (Proc.devRef .tc main_v11)) := by
  entry_read
  rfl

set_option maxHeartbeats 4000000 in
theorem line4_cst_9 (σ : Valuation τ sig (Elt Ideal)) : StableHlo.after hostOps0_4 σ (Proc.devRef .tc main_cst_9) = (constant (F := Ideal) S_ .f32 0x00000000#32) := by
  entry_read
  rfl

set_option maxHeartbeats 4000000 in
theorem line4_cst_10 (σ : Valuation τ sig (Elt Ideal)) : StableHlo.after hostOps0_4 σ (Proc.devRef .tc main_cst_10) = (constant (F := Ideal) S_ .f32 0xFF800000#32) := by
  entry_read
  rfl

set_option maxHeartbeats 4000000 in
theorem line4_v11 (σ : Valuation τ sig (Elt Ideal)) : StableHlo.after hostOps0_4 σ (Proc.devRef .tc main_v11) = (σ (Proc.devRef .tc main_v11)) := by
  entry_read
  rfl

set_option maxHeartbeats 4000000 in
theorem line4_v26 (σ : Valuation τ sig (Elt Ideal)) : StableHlo.after hostOps0_4 σ (Proc.devRef .tc main_v26) = (σ (Proc.devRef .tc main_v26)) := by
  entry_read
  rfl

set_option maxHeartbeats 4000000 in
theorem line4_arg1 (σ : Valuation τ sig (Elt Ideal)) : StableHlo.after hostOps0_4 σ (Proc.devRef .tc main_arg1) = (σ (Proc.devRef .tc main_arg1)) := by
  entry_read
  rfl

set_option maxHeartbeats 4000000 in
theorem line5_v31 (σ : Valuation τ sig (Elt Ideal)) : StableHlo.after hostOps0_5 σ (Proc.devRef .tc main_v31) = select (σ (Proc.devRef .tc main_v30)) (broadcastInDim S4x64x12x64 ![] bcast_S_S4x64x12x64 (σ (Proc.devRef .tc main_cst_9))) (broadcastInDim S4x64x12x64 ![] bcast_S_S4x64x12x64 (σ (Proc.devRef .tc main_cst_10))) := by
  entry_read
  rfl

set_option maxHeartbeats 4000000 in
theorem line5_v29 (σ : Valuation τ sig (Elt Ideal)) : StableHlo.after hostOps0_5 σ (Proc.devRef .tc main_v29) = (σ (Proc.devRef .tc main_v29)) := by
  entry_read
  rfl

set_option maxHeartbeats 4000000 in
theorem line5_v11 (σ : Valuation τ sig (Elt Ideal)) : StableHlo.after hostOps0_5 σ (Proc.devRef .tc main_v11) = (σ (Proc.devRef .tc main_v11)) := by
  entry_read
  rfl

set_option maxHeartbeats 4000000 in
theorem line5_v26 (σ : Valuation τ sig (Elt Ideal)) : StableHlo.after hostOps0_5 σ (Proc.devRef .tc main_v26) = (σ (Proc.devRef .tc main_v26)) := by
  entry_read
  rfl

set_option maxHeartbeats 4000000 in
theorem line5_arg1 (σ : Valuation τ sig (Elt Ideal)) : StableHlo.after hostOps0_5 σ (Proc.devRef .tc main_arg1) = (σ (Proc.devRef .tc main_arg1)) := by
  entry_read
  rfl

set_option maxHeartbeats 4000000 in
theorem line6_v32 (σ : Valuation τ sig (Elt Ideal)) : StableHlo.after hostOps0_6 σ (Proc.devRef .tc main_v32) = shapeCast S256x768 (σ (Proc.devRef .tc main_v31)) shapeCasts_S4x64x12x64_S256x768 := by
  entry_read
  rfl

set_option maxHeartbeats 4000000 in
theorem line6_v33 (σ : Valuation τ sig (Elt Ideal)) : StableHlo.after hostOps0_6 σ (Proc.devRef .tc main_v33) = andi (σ (Proc.devRef .tc main_v26)) (σ (Proc.devRef .tc main_v11)) := by
  entry_read
  rfl

set_option maxHeartbeats 4000000 in
theorem line6_cst_11 (σ : Valuation τ sig (Elt Ideal)) : StableHlo.after hostOps0_6 σ (Proc.devRef .tc main_cst_11) = (constant (F := Ideal) S_ .f32 0x00000000#32) := by
  entry_read
  rfl

set_option maxHeartbeats 4000000 in
theorem line6_cst_12 (σ : Valuation τ sig (Elt Ideal)) : StableHlo.after hostOps0_6 σ (Proc.devRef .tc main_cst_12) = (constant (F := Ideal) S_ .f32 0xFF800000#32) := by
  entry_read
  rfl

set_option maxHeartbeats 4000000 in
theorem line6_v29 (σ : Valuation τ sig (Elt Ideal)) : StableHlo.after hostOps0_6 σ (Proc.devRef .tc main_v29) = (σ (Proc.devRef .tc main_v29)) := by
  entry_read
  rfl

set_option maxHeartbeats 4000000 in
theorem line6_arg1 (σ : Valuation τ sig (Elt Ideal)) : StableHlo.after hostOps0_6 σ (Proc.devRef .tc main_arg1) = (σ (Proc.devRef .tc main_arg1)) := by
  entry_read
  rfl

set_option maxHeartbeats 4000000 in
theorem line7_v34 (σ : Valuation τ sig (Elt Ideal)) : StableHlo.after hostOps0_7 σ (Proc.devRef .tc main_v34) = select (σ (Proc.devRef .tc main_v33)) (broadcastInDim S4x64x12x64 ![] bcast_S_S4x64x12x64 (σ (Proc.devRef .tc main_cst_11))) (broadcastInDim S4x64x12x64 ![] bcast_S_S4x64x12x64 (σ (Proc.devRef .tc main_cst_12))) := by
  entry_read
  rfl

set_option maxHeartbeats 4000000 in
theorem line7_v29 (σ : Valuation τ sig (Elt Ideal)) : StableHlo.after hostOps0_7 σ (Proc.devRef .tc main_v29) = (σ (Proc.devRef .tc main_v29)) := by
  entry_read
  rfl

set_option maxHeartbeats 4000000 in
theorem line7_v32 (σ : Valuation τ sig (Elt Ideal)) : StableHlo.after hostOps0_7 σ (Proc.devRef .tc main_v32) = (σ (Proc.devRef .tc main_v32)) := by
  entry_read
  rfl

set_option maxHeartbeats 4000000 in
theorem line7_arg1 (σ : Valuation τ sig (Elt Ideal)) : StableHlo.after hostOps0_7 σ (Proc.devRef .tc main_arg1) = (σ (Proc.devRef .tc main_arg1)) := by
  entry_read
  rfl

theorem line8_v40 (σ : Valuation τ sig (Elt Ideal)) : StableHlo.after hostOps0_8 σ (Proc.devRef .tc main_v40) = concatenate S3x256x768 0 [⟨S1x256x768, broadcastInDim S1x256x768 ![1, 2] bcast_S256x768_S1x256x768_1_2 (σ (Proc.devRef .tc main_v29))⟩, ⟨S1x256x768, broadcastInDim S1x256x768 ![1, 2] bcast_S256x768_S1x256x768_1_2 (σ (Proc.devRef .tc main_v32))⟩, ⟨S1x256x768, broadcastInDim S1x256x768 ![1, 2] bcast_S256x768_S1x256x768_1_2 (shapeCast S256x768 (σ (Proc.devRef .tc main_v34)) shapeCasts_S4x64x12x64_S256x768)⟩] concatenates_S1x256x768_S1x256x768_S1x256x768_S3x256x768_d0 := rfl

set_option maxHeartbeats 4000000 in
theorem line8_v50 (σ : Valuation τ sig (Elt Ideal)) : StableHlo.after hostOps0_8 σ (Proc.devRef .tc main_v50) = subi (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 16#32))) (broadcastInDim S64x64 ![] bcast_S_S64x64 (constantI S_ 32 1#32)) := by
  entry_read
  rfl

set_option maxHeartbeats 4000000 in
theorem line8_c_15 (σ : Valuation τ sig (Elt Ideal)) : StableHlo.after hostOps0_8 σ (Proc.devRef .tc main_c_15) = (constantI S_ 32 0#32) := by
  entry_read
  rfl

set_option maxHeartbeats 4000000 in
theorem line8_c_16 (σ : Valuation τ sig (Elt Ideal)) : StableHlo.after hostOps0_8 σ (Proc.devRef .tc main_c_16) = (constantI S_ 32 30#32) := by
  entry_read
  rfl

set_option maxHeartbeats 4000000 in
theorem line8_arg1 (σ : Valuation τ sig (Elt Ideal)) : StableHlo.after hostOps0_8 σ (Proc.devRef .tc main_arg1) = (σ (Proc.devRef .tc main_arg1)) := by
  entry_read
  rfl

set_option maxHeartbeats 4000000 in
theorem line9_v51 (σ : Valuation τ sig (Elt Ideal)) : StableHlo.after hostOps0_9 σ (Proc.devRef .tc main_v51) = minsi (broadcastInDim S64x64 ![] bcast_S_S64x64 (σ (Proc.devRef .tc main_c_16))) (maxsi (broadcastInDim S64x64 ![] bcast_S_S64x64 (σ (Proc.devRef .tc main_c_15))) (σ (Proc.devRef .tc main_v50))) := by
  entry_read
  rfl

set_option maxHeartbeats 4000000 in
theorem line9_v40 (σ : Valuation τ sig (Elt Ideal)) : StableHlo.after hostOps0_9 σ (Proc.devRef .tc main_v40) = (σ (Proc.devRef .tc main_v40)) := by
  entry_read
  rfl

set_option maxHeartbeats 4000000 in
theorem line9_arg1 (σ : Valuation τ sig (Elt Ideal)) : StableHlo.after hostOps0_9 σ (Proc.devRef .tc main_arg1) = (σ (Proc.devRef .tc main_arg1)) := by
  entry_read
  rfl

set_option maxHeartbeats 4000000 in
theorem line10_v59 (σ : Valuation τ sig (Elt Ideal)) : StableHlo.after hostOps0_10 σ (Proc.devRef .tc main_v59) = Host.dotGeneral (F := Ideal) (φ₁ := .f32) (φ₂ := .f32) dot_S16x15x31_S31x64x64_S16x15x64x64_2_0_01_12_n_n (some .fp32) (σ (Proc.devRef .tc main_arg1)) (uitofp .f32 (cmpi .eq (broadcastInDim S31x64x64 ![0, 1, 2] bcast_S1x64x64_S31x64x64_0_1_2 (broadcastInDim S1x64x64 ![1, 2] bcast_S64x64_S1x64x64_1_2 (σ (Proc.devRef .tc main_v51)))) (broadcastInDim S31x64x64 ![0, 1, 2] bcast_S31x1x1_S31x64x64_0_1_2 (broadcastInDim S31x1x1 ![0] bcast_S31_S31x1x1_0 (iotaInDim S31 32 0))))) := by
  entry_read
  rfl

set_option maxHeartbeats 4000000 in
theorem line10_c_17 (σ : Valuation τ sig (Elt Ideal)) : StableHlo.after hostOps0_10 σ (Proc.devRef .tc main_c_17) = (constantI S_ 32 0#32) := by
  entry_read
  rfl

set_option maxHeartbeats 4000000 in
theorem line10_v40 (σ : Valuation τ sig (Elt Ideal)) : StableHlo.after hostOps0_10 σ (Proc.devRef .tc main_v40) = (σ (Proc.devRef .tc main_v40)) := by
  entry_read
  rfl

set_option maxHeartbeats 4000000 in
theorem line11_v60 (σ : Valuation τ sig (Elt Ideal)) : StableHlo.after hostOps0_11 σ (Proc.devRef .tc main_v60) = pad S16x23x64x64 ![0, 4, 0, 0] ![0, 4, 0, 0] ![0, 0, 0, 0] (σ (Proc.devRef .tc main_v59)) (sitofp (F := Ideal) .f32 (σ (Proc.devRef .tc main_c_17))) pads_S16x15x64x64_S16x23x64x64_000_440_000_000 h_S_ := by
  entry_read
  rfl

set_option maxHeartbeats 4000000 in
theorem line11_v40 (σ : Valuation τ sig (Elt Ideal)) : StableHlo.after hostOps0_11 σ (Proc.devRef .tc main_v40) = (σ (Proc.devRef .tc main_v40)) := by
  entry_read
  rfl

set_option maxHeartbeats 4000000 in
theorem line12_v63 (σ : Valuation τ sig (Elt Ideal)) : StableHlo.after hostOps0_12 σ (Proc.devRef .tc main_v63) = concatenate S16x22x64x128 3 [⟨S16x22x64x64, extractStridedSlice S16x22x64x64 ![0, 0, 0, 0] (σ (Proc.devRef .tc main_v60)) slices_S16x23x64x64_S16x22x64x64_0_0_0_0⟩, ⟨S16x22x64x64, extractStridedSlice S16x22x64x64 ![0, 1, 0, 0] (σ (Proc.devRef .tc main_v60)) slices_S16x23x64x64_S16x22x64x64_0_1_0_0⟩] concatenates_S16x22x64x64_S16x22x64x64_S16x22x64x128_d3 := by
  entry_read
  rfl

set_option maxHeartbeats 4000000 in
theorem line12_v40 (σ : Valuation τ sig (Elt Ideal)) : StableHlo.after hostOps0_12 σ (Proc.devRef .tc main_v40) = (σ (Proc.devRef .tc main_v40)) := by
  entry_read
  rfl

end Cert.KernelProof
-- ==== Proof.NattenTables.lean ====
module

public import proofs.«01_k».proof.Defs
public import proofs.«01_k».proof.Proof.Consts
public import proofs.«01_k».proof.Proof.Gen.KernelIdeal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise
public import proofs.«01_k».proof.Proof.NattenHost
public import proofs.«01_k».proof.Proof.NattenBias

@[expose] public section

set_option maxRecDepth 16384

noncomputable section

namespace Cert.KernelProof

open Cert.KernelIdeal Cert.KernelIdeal.Gen Idealize.ShloMosaic Idealize.ShloMosaic.TcCoe Idealize.SL.Sem

variable (m : (ℓ : Loc nD τ sig) → Buf (Elt Ideal) ℓ)

/-- The first of the sixteen key columns a query column attends to. -/
def colStart (q : ℕ) : ℕ := min 48 (q - 8)

/-- Whether the query column `q` attends to the key column `k`. -/
abbrev ColOk (q k : ℕ) : Prop := colStart q ≤ k ∧ k < colStart q + 16

/-- Whether, in the bias table `a`, the query row `q` of four attends to the key row `k` of twelve. -/
abbrev RowOk (a q k : ℕ) : Prop := (a = 0 → k < 8) ∧ (a = 1 → q ≤ k ∧ k < q + 8) ∧ (a = 2 → 4 ≤ k)

/-- The column of the relative position table for key column `k` and query column `q`. -/
def colOff (k q : ℕ) : ℕ := min 30 (k + 15 - q)

/-- A bias column lies within the table. -/
theorem colOff_lt (k q : ℕ) : colOff k q < 31 := by unfold colOff; omega

/-- The row test of the first table, decided over all rows. -/
theorem row_word0 : ∀ (q : Fin 4) (k : Fin 12),
    IntOp.andi (IntOp.cmpi CmpIPredicate.slt (BitVec.ofNat 32 k.val) 8#32) (IntOp.cmpi CmpIPredicate.sge (BitVec.ofNat 32 q.val) 0#32)
      = if RowOk 0 q.val k.val then 1#1 else 0#1 := by decide +kernel

/-- The row test of the inner table, decided over all rows. -/
theorem row_word1 : ∀ (q : Fin 4) (k : Fin 12),
    IntOp.andi (IntOp.cmpi CmpIPredicate.sge (BitVec.ofNat 32 k.val) (BitVec.ofNat 32 q.val))
        (IntOp.cmpi CmpIPredicate.slt (BitVec.ofNat 32 k.val) (IntOp.addi (BitVec.ofNat 32 q.val) 8#32))
      = if RowOk 1 q.val k.val then 1#1 else 0#1 := by decide +kernel

/-- The row test of the last table, decided over all rows. -/
theorem row_word2 : ∀ (q : Fin 4) (k : Fin 12),
    IntOp.andi (IntOp.cmpi CmpIPredicate.sge (BitVec.ofNat 32 k.val) 4#32) (IntOp.cmpi CmpIPredicate.sge (BitVec.ofNat 32 q.val) 0#32)
      = if RowOk 2 q.val k.val then 1#1 else 0#1 := by decide +kernel

/-- The column test, decided over all columns. -/
theorem col_word : ∀ (q k : Fin 64),
    IntOp.andi (IntOp.cmpi CmpIPredicate.sge (BitVec.ofNat 32 k.val)
        (IntOp.minsi (48#32) (IntOp.maxsi (0#32) (IntOp.subi (BitVec.ofNat 32 q.val) 8#32))))
      (IntOp.cmpi CmpIPredicate.slt (BitVec.ofNat 32 k.val)
        (IntOp.addi (IntOp.minsi (48#32) (IntOp.maxsi (0#32) (IntOp.subi (BitVec.ofNat 32 q.val) 8#32))) 16#32))
      = if ColOk q.val k.val then 1#1 else 0#1 := by decide +kernel

/-- The word of the bias column, over all columns. -/
theorem off_word : ∀ (k q : Fin 64),
    IntOp.minsi (30#32) (IntOp.maxsi (0#32)
        (IntOp.subi (IntOp.addi (IntOp.subi (BitVec.ofNat 32 k.val) (BitVec.ofNat 32 q.val)) 16#32) 1#32))
      = BitVec.ofNat 32 (colOff k.val q.val) := by decide +kernel

/-- Comparing the words of two bias columns compares the columns. -/
theorem eq_word : ∀ (a x : Fin 31), IntOp.cmpi CmpIPredicate.eq (BitVec.ofNat 32 a.val) (BitVec.ofNat 32 x.val)
    = if x = a then 1#1 else 0#1 := by decide +kernel

/-- Selecting by a conjunction of two tests. -/
theorem select_and {P Q : Prop} [Decidable P] [Decidable Q] (x y : EReal) :
    Scalar.select (IntOp.andi (if P then 1#1 else 0#1) (if Q then 1#1 else 0#1)) x y = if P ∧ Q then x else y := by
  by_cases hP : P <;> by_cases hQ : Q <;> simp [hP, hQ, Scalar.select, IntOp.andi]

/-- The mask tables: zero where the query attends to the key, -∞ elsewhere. -/
theorem mask_at (c : Dev nD) (a : Fin 3) (b : Fin 256) (d : Fin 768) : V m c main_v40 (ix3 a b d)
    = if RowOk a.val (b.val / 64) (d.val / 64) ∧ ColOk (b.val % 64) (d.val % 64) then (0 : EReal) else ⊥ := by
  have hb := b.isLt
  have hd := d.isLt
  rw [V_eq, line12_v40, line11_v40, line10_v40, line9_v40, line8_v40, line7_v34, line7_v32, line7_v29, line6_v33, line6_cst_11,
    line6_cst_12, line6_v32, line6_v29, line5_v31, line5_v29, line5_v26, line5_v11, line4_v30, line4_cst_9, line4_cst_10,
    line4_v29, line4_v26, line4_v11, line3_v28, line3_v21, line3_v26, line3_v11, line2_v27, line2_cst, line2_cst_8, line2_v21,
    line2_v26, line2_v11, line1_v6, line1_v0, line1_v2, line1_v3, line0_v0, line0_v2, line0_v3, line0_v5, line0_c_0, line0_c_1]
  have hc := col_word ⟨b.val % 64, by omega⟩ ⟨d.val % 64, by omega⟩
  dsimp only at hc
  rw [← Cert.Consts.ofBits_neg_inf]
  match a with
  | 0 =>
    have hr := row_word0 ⟨b.val / 64, by omega⟩ ⟨d.val / 64, by omega⟩
    dsimp only at hr
    pointwise []
    rw [hr, hc]
    exact select_and _ _
  | 1 =>
    have hr := row_word1 ⟨b.val / 64, by omega⟩ ⟨d.val / 64, by omega⟩
    dsimp only at hr
    pointwise []
    rw [hr, hc]
    exact select_and _ _
  | 2 =>
    have hr := row_word2 ⟨b.val / 64, by omega⟩ ⟨d.val / 64, by omega⟩
    dsimp only at hr
    pointwise []
    rw [hr, hc]
    exact select_and _ _

/-- A sum against the indicator of one column reads that column. -/
theorem sum_column (f : Fin 31 → EReal) (w : BitVec 32) (a : Fin 31) (hw : w = BitVec.ofNat 32 a.val) :
    ∑ x : Fin 31, f x * FloatOps.uitofp (F := Ideal) FTy.f32 (IntOp.cmpi CmpIPredicate.eq w (BitVec.ofNat 32 x.val)) = f a := by
  subst hw
  rw [Finset.sum_eq_single a]
  · rw [eq_word, if_pos rfl]
    show f a * (((1#1 : BitVec 1).toNat : ℝ) : EReal) = f a
    simp
  · intro x _ hx
    rw [eq_word, if_neg hx]
    show f x * (((0#1 : BitVec 1).toNat : ℝ) : EReal) = 0
    simp
  · intro h
    exact absurd (Finset.mem_univ _) h

/-- The pair table inside the rows of the relative position table. -/
theorem pair_at (c : Dev nD) (h : Fin 16) (i : Fin 22) (q : Fin 64) (l : Fin 128) (h0 : 4 ≤ i.val + l.val / 64) (h1 : i.val + l.val / 64 < 19) :
    V m c main_v63 (ix4 h i q l) = m ((c.tc : Thread nD τ).loc main_arg1)
      (ix3 h ⟨i.val + l.val / 64 - 4, by omega⟩ ⟨colOff (l.val % 64) q.val, colOff_lt _ _⟩) := by
  have hl := l.isLt
  have hq := q.isLt
  rw [V_eq, line12_v63, line11_v60, line10_v59, line10_c_17, line9_v51, line9_arg1, line8_c_15, line8_c_16, line8_v50, line8_arg1,
    line7_arg1, line6_arg1, line5_arg1, line4_arg1, line3_arg1, line2_arg1, line1_arg1, line0_arg1]
  pointwise []
  by_cases hl' : l.val < 64
  · rw [dif_pos hl', dif_pos]
    · refine (sum_column _ _ ⟨colOff (l.val % 64) q.val, colOff_lt _ _⟩ ?_).trans ?_
      · have := off_word ⟨l.val % 64, by omega⟩ q
        dsimp only at this
        rw [← this, show l.val % 64 = l.val by omega]
      · refine at3 (m ((c.tc : Thread nD τ).loc main_arg1)) rfl ?_ rfl
        show i.val - 4 = i.val + l.val / 64 - 4
        omega
    · intro a
      fin_cases a
      · exact ⟨Nat.zero_le _, Nat.mod_one _, by simpa using h.isLt⟩
      · refine ⟨?_, ?_, ?_⟩ <;> simp <;> omega
      · exact ⟨Nat.zero_le _, Nat.mod_one _, by simpa using q.isLt⟩
      · exact ⟨Nat.zero_le _, Nat.mod_one _, by simpa using hl'⟩
  · rw [dif_neg hl', dif_pos]
    · refine (sum_column _ _ ⟨colOff (l.val % 64) q.val, colOff_lt _ _⟩ ?_).trans ?_
      · have := off_word ⟨l.val % 64, by omega⟩ q
        dsimp only at this
        rw [← this, show l.val % 64 = l.val - 64 by omega]
      · refine at3 (m ((c.tc : Thread nD τ).loc main_arg1)) rfl ?_ rfl
        show 1 + i.val - 4 = i.val + l.val / 64 - 4
        omega
    · intro a
      fin_cases a
      · exact ⟨Nat.zero_le _, Nat.mod_one _, by simpa using h.isLt⟩
      · refine ⟨?_, ?_, ?_⟩ <;> simp <;> omega
      · exact ⟨Nat.zero_le _, Nat.mod_one _, by simpa using q.isLt⟩
      · refine ⟨Nat.zero_le _, Nat.mod_one _, ?_⟩
        simp
        omega

end Cert.KernelProof
-- ==== Proof.NattenRef.lean ====
module

public import proofs.«01_k».proof.Defs
public import proofs.«01_k».proof.Proof.Gen.ReferenceIdeal.Read
public import Idealize.ShloMosaic.Lib.Pointwise
public import proofs.«01_k».proof.Proof.NattenTables

@[expose] public section

noncomputable section

namespace Cert.KernelProof

open Idealize.ShloMosaic Idealize.ShloMosaic.TcCoe Idealize.SL.Sem Idealize.ShloMosaic.StableHlo
open Cert.ReferenceIdeal Cert.ReferenceIdeal.Gen Cert.ReferenceIdeal.Read

/-- The first of the eight key rows that the query row `r` attends to. -/
def rowStart (r : ℕ) : ℕ := min (r - 4) 120

/-- The eight rows end within the image. -/
theorem rowStart_le (r : ℕ) : rowStart r ≤ 120 := by unfold rowStart; omega

/-- Gathering image rows: an entry is that of the row the index word names, held within the image. -/
theorem gather_rows {α : Type} (x : S16x128x64x128.Idx → α) (idx : IVec S128x8x1 32) (h : Fin 16) (r : Fin 128) (j : Fin 8) (q : Fin 64) (e : Fin 128) :
    Host.gather gather_S16x128x64x128_S128x8x1_S16x128x8x64x128_034_1_n_n_1_2_16164128 x idx (ix5 h r j q e)
      = x (ix4 h ⟨min (idx (ix3 r j 0)).toInt.toNat 127, by omega⟩ q e) := by
  unfold Host.gather
  congr 1
  funext a
  refine Fin.ext ?_
  show GatherDims.start _ _ idx a + GatherDims.batchCoord _ _ a + GatherDims.offCoord _ _ a = _
  rcases (show ∀ a : Fin 4, a = 0 ∨ a = 1 ∨ a = 2 ∨ a = 3 by decide) a with rfl | rfl | rfl | rfl
  ·
    unfold GatherDims.start
    rw [dif_neg (by decide), GatherDims.batchCoord_eq_zero _ _ _ List.not_mem_nil]
    unfold GatherDims.offCoord
    rw [dif_pos (by decide)]
    exact (Nat.zero_add _).trans rfl
  ·
    unfold GatherDims.start
    rw [dif_pos (by decide), GatherDims.batchCoord_eq_zero _ _ _ List.not_mem_nil, GatherDims.offCoord_eq_zero _ _ _ (by decide)]
    refine congrArg (fun i => min (idx i).toInt.toNat 127) ?_
    funext b
    refine Fin.ext ?_
    match b with
    | ⟨0, _⟩ => rfl
    | ⟨1, _⟩ => rfl
    | ⟨2, _⟩ => rfl
  ·
    unfold GatherDims.start
    rw [dif_neg (by decide), GatherDims.batchCoord_eq_zero _ _ _ List.not_mem_nil]
    unfold GatherDims.offCoord
    rw [dif_pos (by decide)]
    exact (Nat.zero_add _).trans rfl
  ·
    unfold GatherDims.start
    rw [dif_neg (by decide), GatherDims.batchCoord_eq_zero _ _ _ List.not_mem_nil]
    unfold GatherDims.offCoord
    rw [dif_pos (by decide)]
    exact (Nat.zero_add _).trans rfl

/-- Gathering biases: an entry is that of the row and the column which its two index words name, held within the table. -/
theorem gather_bias {α : Type} (x : S16x15x31.Idx → α) (idx : IVec S128x64x8x64x2 32) (h : Fin 16) (r : Fin 128) (q : Fin 64) (j : Fin 8) (k : Fin 64) :
    Host.gather gather_S16x15x31_S128x64x8x64x2_S16x128x64x8x64_0_12_n_n_12_4_1611 x idx (ix5 h r q j k)
      = x (ix3 h ⟨min (idx (ix5 r q j k 0)).toInt.toNat 14, by omega⟩ ⟨min (idx (ix5 r q j k 1)).toInt.toNat 30, by omega⟩) := by
  unfold Host.gather
  congr 1
  funext a
  refine Fin.ext ?_
  show GatherDims.start _ _ idx a + GatherDims.batchCoord _ _ a + GatherDims.offCoord _ _ a = _
  rcases (show ∀ a : Fin 3, a = 0 ∨ a = 1 ∨ a = 2 by decide) a with rfl | rfl | rfl
  ·
    unfold GatherDims.start
    rw [dif_neg (by decide), GatherDims.batchCoord_eq_zero _ _ _ List.not_mem_nil]
    unfold GatherDims.offCoord
    rw [dif_pos (by decide)]
    exact (Nat.zero_add _).trans rfl
  ·
    unfold GatherDims.start
    rw [dif_pos (by decide), GatherDims.batchCoord_eq_zero _ _ _ List.not_mem_nil, GatherDims.offCoord_eq_zero _ _ _ (by decide)]
    refine congrArg (fun i => min (idx i).toInt.toNat 14) ?_
    funext b
    refine Fin.ext ?_
    match b with
    | ⟨0, _⟩ => rfl
    | ⟨1, _⟩ => rfl
    | ⟨2, _⟩ => rfl
    | ⟨3, _⟩ => rfl
    | ⟨4, _⟩ => rfl
  ·
    unfold GatherDims.start
    rw [dif_pos (by decide), GatherDims.batchCoord_eq_zero _ _ _ List.not_mem_nil, GatherDims.offCoord_eq_zero _ _ _ (by decide)]
    refine congrArg (fun i => min (idx i).toInt.toNat 30) ?_
    funext b
    refine Fin.ext ?_
    match b with
    | ⟨0, _⟩ => rfl
    | ⟨1, _⟩ => rfl
    | ⟨2, _⟩ => rfl
    | ⟨3, _⟩ => rfl
    | ⟨4, _⟩ => rfl

/-- The word computed for a key row's start, over all rows. -/
theorem start_word : ∀ (r : Fin 128) (j : Fin 8),
    IntOp.addi (IntOp.minsi (120#32) (IntOp.maxsi (0#32) (IntOp.subi (BitVec.ofNat 32 r.val) 4#32))) (BitVec.ofNat 32 j.val)
      = BitVec.ofNat 32 (rowStart r.val + j.val) := by decide +kernel

/-- The key row's word after the negative ones are wrapped. -/
theorem row_word : ∀ (r : Fin 128) (j : Fin 8),
    Scalar.select (IntOp.cmpi CmpIPredicate.slt (BitVec.ofNat 32 (rowStart r.val + j.val)) 0#32)
      (IntOp.addi (BitVec.ofNat 32 (rowStart r.val + j.val)) 128#32) (BitVec.ofNat 32 (rowStart r.val + j.val))
      = BitVec.ofNat 32 (rowStart r.val + j.val) := by decide +kernel

/-- The word of the bias row. -/
theorem brow_word : ∀ (r : Fin 128) (j : Fin 8),
    IntOp.subi (IntOp.addi (IntOp.subi (BitVec.ofNat 32 (rowStart r.val + j.val)) (BitVec.ofNat 32 r.val)) 8#32) 1#32
      = BitVec.ofNat 32 (rowStart r.val + j.val + 7 - r.val) := by decide +kernel

/-- The bias row's word after the negative ones are wrapped. -/
theorem brow_word' : ∀ (r : Fin 128) (j : Fin 8),
    Scalar.select (IntOp.cmpi CmpIPredicate.slt (BitVec.ofNat 32 (rowStart r.val + j.val + 7 - r.val)) 0#32)
      (IntOp.addi (BitVec.ofNat 32 (rowStart r.val + j.val + 7 - r.val)) 15#32) (BitVec.ofNat 32 (rowStart r.val + j.val + 7 - r.val))
      = BitVec.ofNat 32 (rowStart r.val + j.val + 7 - r.val) := by decide +kernel

/-- The bias column's word after the negative ones are wrapped. -/
theorem bcol_word' : ∀ (k q : Fin 64),
    Scalar.select (IntOp.cmpi CmpIPredicate.slt (BitVec.ofNat 32 (colOff k.val q.val)) 0#32)
      (IntOp.addi (BitVec.ofNat 32 (colOff k.val q.val)) 31#32) (BitVec.ofNat 32 (colOff k.val q.val))
      = BitVec.ofNat 32 (colOff k.val q.val) := by decide +kernel

/-- A key row's word, read as an index, is the row. -/
theorem row_nat : ∀ (r : Fin 128) (j : Fin 8), min (BitVec.ofNat 32 (rowStart r.val + j.val)).toInt.toNat 127 = rowStart r.val + j.val := by
  decide +kernel

/-- A bias row's word, read as an index, is the row. -/
theorem brow_nat : ∀ (r : Fin 128) (j : Fin 8),
    min (BitVec.ofNat 32 (rowStart r.val + j.val + 7 - r.val)).toInt.toNat 14 = rowStart r.val + j.val + 7 - r.val := by decide +kernel

/-- A bias column's word, read as an index, is the column. -/
theorem bcol_nat : ∀ (k q : Fin 64), min (BitVec.ofNat 32 (colOff k.val q.val)).toInt.toNat 30 = colOff k.val q.val := by decide +kernel

/-- The index array of the gathered rows. -/
theorem row_read (r : Fin 128) (j : Fin 8) : val_main_v60 (F := Ideal) (ix3 r j 0) = BitVec.ofNat 32 (rowStart r.val + j.val) := by
  pointwise [val_main_v18, val_main_c, val_main_v20, val_main_v21, val_main_c_4, val_main_c_5, val_main_call0_v0, val_main_call0_v1, val_main_call0_v2, val_main_call0_v3, val_main_call0_v4, val_main_v22, val_main_v23, val_main_v24, val_main_v25, val_main_v26, val_main_v27, val_main_v28, val_main_c_10, val_main_v55, val_main_v56, val_main_c_11, val_main_v57, val_main_v58, val_main_v59, val_main_v60]
  change Scalar.select (IntOp.cmpi CmpIPredicate.slt (IntOp.addi (IntOp.minsi (120#32) (IntOp.maxsi (0#32) (IntOp.subi (BitVec.ofNat 32 r.val) 4#32))) (BitVec.ofNat 32 j.val)) 0#32)
      (IntOp.addi (IntOp.addi (IntOp.minsi (120#32) (IntOp.maxsi (0#32) (IntOp.subi (BitVec.ofNat 32 r.val) 4#32))) (BitVec.ofNat 32 j.val)) 128#32) (IntOp.addi (IntOp.minsi (120#32) (IntOp.maxsi (0#32) (IntOp.subi (BitVec.ofNat 32 r.val) 4#32))) (BitVec.ofNat 32 j.val)) = _
  rw [start_word, row_word]

/-- The array that says which key columns a query column attends to. -/
theorem col_read (q k : Fin 64) : val_main_v44 (F := Ideal) (ix2 q k) = if ColOk q.val k.val then 1#1 else 0#1 := by
  pointwise [val_main_v19, val_main_c_6, val_main_v29, val_main_v30, val_main_c_7, val_main_c_8, val_main_call1_v0, val_main_call1_v1, val_main_call1_v2, val_main_call1_v3, val_main_call1_v4, val_main_v31, val_main_v32, val_main_v33, val_main_v34, val_main_v35, val_main_v36, val_main_v37, val_main_v38, val_main_c_9, val_main_v39, val_main_v40, val_main_v41, val_main_v42, val_main_v43, val_main_v44]
  exact col_word q k

/-- The row part of the bias's index array. -/
theorem brow_read (r : Fin 128) (q : Fin 64) (j : Fin 8) (k : Fin 64) : val_main_v95 (F := Ideal) (ix5 r q j k 0) = BitVec.ofNat 32 (rowStart r.val + j.val + 7 - r.val) := by
  pointwise [val_main_v18, val_main_c, val_main_v20, val_main_v21, val_main_c_4, val_main_c_5, val_main_call0_v0, val_main_call0_v1, val_main_call0_v2, val_main_call0_v3, val_main_call0_v4, val_main_v22, val_main_v23, val_main_v24, val_main_v25, val_main_v26, val_main_v27, val_main_v28, val_main_v50, val_main_v51, val_main_v52, val_main_c_14, val_main_v70, val_main_v71, val_main_c_15, val_main_v72, val_main_v73, val_main_v74, val_main_c_20, val_main_v81, val_main_v82, val_main_c_21, val_main_v83, val_main_v84, val_main_v85, val_main_v91, val_main_v93, val_main_v95]
  refine Eq.trans ?_ (brow_word' r j)
  rw [← brow_word, ← start_word]
  rfl

/-- The column part of the bias's index array. -/
theorem bcol_read (r : Fin 128) (q : Fin 64) (j : Fin 8) (k : Fin 64) : val_main_v95 (F := Ideal) (ix5 r q j k 1) = BitVec.ofNat 32 (colOff k.val q.val) := by
  pointwise [val_main_v19, val_main_v45, val_main_v46, val_main_v47, val_main_v48, val_main_v49, val_main_c_16, val_main_v75, val_main_v76, val_main_c_17, val_main_v77, val_main_v78, val_main_c_18, val_main_c_19, val_main_call2_v0, val_main_call2_v1, val_main_call2_v2, val_main_call2_v3, val_main_call2_v4, val_main_v79, val_main_v80, val_main_c_22, val_main_v86, val_main_v87, val_main_c_23, val_main_v88, val_main_v89, val_main_v90, val_main_v92, val_main_v94, val_main_v95]
  refine Eq.trans ?_ (bcol_word' k q)
  rw [← off_word]
  rfl

/-- The gathered keys, entry by entry. -/
theorem keys_at (x0 : (⟨S8192x6144, .bf16⟩ : BufTy).Contents (Elt Ideal)) (h : Fin 16) (r : Fin 128) (j : Fin 8) (k : Fin 64) (e : Fin 128) :
    val_main_v61 (F := Ideal) x0 (ix5 h r j k e) = x0 (ix2 ⟨(rowStart r.val + j.val) * 64 + k.val, by have := rowStart_le r.val; omega⟩ ⟨2048 + (h.val * 128 + e.val), by omega⟩) := by
  unfold val_main_v61
  rw [gather_rows]
  simp only [row_read, row_nat]
  pointwise [val_main_v54, val_main_v13, val_main_v12, val_main_v2, val_main_v0]

/-- The gathered values, entry by entry. -/
theorem vals_at (x0 : (⟨S8192x6144, .bf16⟩ : BufTy).Contents (Elt Ideal)) (h : Fin 16) (r : Fin 128) (j : Fin 8) (k : Fin 64) (e : Fin 128) :
    val_main_v69 (F := Ideal) x0 (ix5 h r j k e) = x0 (ix2 ⟨(rowStart r.val + j.val) * 64 + k.val, by have := rowStart_le r.val; omega⟩ ⟨4096 + (h.val * 128 + e.val), by omega⟩) := by
  unfold val_main_v69
  rw [gather_rows]
  have e' : val_main_v68 (F := Ideal) = val_main_v60 := rfl
  simp only [e', row_read, row_nat]
  pointwise [val_main_v62, val_main_v15, val_main_v14, val_main_v3, val_main_v0]

/-- The gathered biases, entry by entry. -/
theorem bias_at (x1 : (⟨S16x15x31, .f32⟩ : BufTy).Contents (Elt Ideal)) (h : Fin 16) (r : Fin 128) (q : Fin 64) (j : Fin 8) (k : Fin 64) :
    val_main_v96 (F := Ideal) x1 (ix5 h r q j k) = x1 (ix3 h ⟨rowStart r.val + j.val + 7 - r.val, by unfold rowStart; omega⟩ ⟨colOff k.val q.val, colOff_lt _ _⟩) := by
  unfold val_main_v96
  rw [gather_bias]
  simp only [brow_read, brow_nat, bcol_read, bcol_nat]

/-- The score of the query column `q` of row `r` against key `k` of row `rowStart r + j`. -/
def score (x0 : (⟨S8192x6144, .bf16⟩ : BufTy).Contents (Elt Ideal)) (x1 : (⟨S16x15x31, .f32⟩ : BufTy).Contents (Elt Ideal))
    (h : Fin 16) (r : Fin 128) (q : Fin 64) (j : Fin 8) (k : Fin 64) : EReal :=
  if ColOk q.val k.val then
    (∑ e : Fin 128, Ideal.div (x0 (ix2 ⟨r.val * 64 + q.val, by omega⟩ ⟨h.val * 128 + e.val, by omega⟩))
          (Ideal.div 1 (Ideal.log (Ideal.ofBits FTy.f32 1073741824#32) * Ideal.sqrt (Ideal.ofBits FTy.f32 1124073472#32)))
        * x0 (ix2 ⟨(rowStart r.val + j.val) * 64 + k.val, by have := rowStart_le r.val; omega⟩ ⟨2048 + (h.val * 128 + e.val), by omega⟩))
        * Ideal.div 1 (Ideal.sqrt (Ideal.ofBits FTy.f32 1124073472#32))
      + x1 (ix3 h ⟨rowStart r.val + j.val + 7 - r.val, by unfold rowStart; omega⟩ ⟨colOff k.val q.val, colOff_lt _ _⟩)
  else ⊥

/-- The masked scores, entry by entry. -/
theorem scores_at (x0 : (⟨S8192x6144, .bf16⟩ : BufTy).Contents (Elt Ideal)) (x1 : (⟨S16x15x31, .f32⟩ : BufTy).Contents (Elt Ideal))
    (h : Fin 16) (r : Fin 128) (q : Fin 64) (j : Fin 8) (k : Fin 64) :
    val_main_v102 (F := Ideal) x0 x1 (ix5 h r q j k) = score x0 x1 h r q j k := by
  pointwise [val_main_v102, val_main_call3_v0, val_main_call3_v1, val_main_call3_v2, val_main_cst_24, val_main_v101, val_main_v100, val_main_v99,
    val_main_v98, val_main_v97, val_main_v53, val_main_v11, val_main_v10, val_main_v9, val_main_v8, val_main_v7, val_main_v6, val_main_v5,
    val_main_v4, val_main_v1, val_main_v0, val_main_cst, val_main_cst_0, val_main_cst_1, val_main_v16, val_main_v17, val_main_cst_2, val_main_cst_3]
  simp only [keys_at, bias_at, col_read]
  unfold score
  by_cases hc : ColOk q.val k.val
  · rw [if_pos hc, if_pos hc]
    rfl
  · rw [if_neg hc, if_neg hc]
    exact Cert.Consts.ofBits_neg_inf

variable (x0 : (⟨S8192x6144, .bf16⟩ : BufTy).Contents (Elt Ideal)) (x1 : (⟨S16x15x31, .f32⟩ : BufTy).Contents (Elt Ideal))

/-- The scores of one query in a row: key row and key column joined. -/
def scoreRow (h : Fin 16) (r : Fin 128) (q : Fin 64) (n : Fin 512) : EReal :=
  score x0 x1 h r q ⟨n.val / 64, by omega⟩ ⟨n.val % 64, by omega⟩

/-- The scores with a query's eight key rows joined. -/
theorem row_at (h : Fin 16) (r : Fin 128) (q : Fin 64) (n : Fin 512) :
    val_main_v103 (F := Ideal) x0 x1 (ix4 h r q n) = scoreRow x0 x1 h r q n := by
  have hh := h.isLt
  have hr := r.isLt
  have hq := q.isLt
  have hn := n.isLt
  have e : idx_main_v103 (ix4 h r q n) = ix5 h r q ⟨n.val / 64, by omega⟩ ⟨n.val % 64, by omega⟩ := by
    funext a
    refine Fin.ext ?_
    match a with
    | ⟨0, _⟩ => show (((h.val * 128 + r.val) * 64 + q.val) * 512 + n.val) / 4194304 = h.val; omega
    | ⟨1, _⟩ => show (((h.val * 128 + r.val) * 64 + q.val) * 512 + n.val) / 32768 % 128 = r.val; omega
    | ⟨2, _⟩ => show (((h.val * 128 + r.val) * 64 + q.val) * 512 + n.val) / 512 % 64 = q.val; omega
    | ⟨3, _⟩ => show (((h.val * 128 + r.val) * 64 + q.val) * 512 + n.val) / 64 % 8 = n.val / 64; omega
    | ⟨4, _⟩ => show (((h.val * 128 + r.val) * 64 + q.val) * 512 + n.val) % 64 = n.val % 64; omega
  refine (val_main_v103_apply x0 x1 (ix4 h r q n)).trans ?_
  rw [e]
  exact scores_at x0 x1 h r q _ _

/-- The maximum over the last axis of a rank-4 array, from -∞. -/
theorem host_max {a b c n : ℕ} (X : (⟨4, ![a, b, c, n]⟩ : Shape).Idx → EReal) (Z : S_.Idx → EReal) (hZ : ∀ i, Z i = ⊥)
    (hr : (⟨4, ![a, b, c, n]⟩ : Shape).ReducesTo [3] ⟨3, ![a, b, c]⟩) (hu : 0 < S_.numel) (i : Fin a) (j : Fin b) (k : Fin c) :
    Host.reduce (FloatOps.maximumf (F := Ideal) (φ := .f32)) X Z hr hu (ix3 i j k) = Finset.univ.fold max ⊥ (fun l => X (ix4 i j k l)) := by
  pointwise []
  rw [hZ]

/-- The largest score of a query. -/
theorem top_at (h : Fin 16) (r : Fin 128) (q : Fin 64) :
    val_main_v104 (F := Ideal) x0 x1 (ix3 h r q) = Finset.univ.fold max ⊥ (scoreRow x0 x1 h r q) := by
  have e : (fun n => val_main_v103 (F := Ideal) x0 x1 (ix4 h r q n)) = scoreRow x0 x1 h r q := funext fun n => row_at x0 x1 h r q n
  unfold val_main_v104
  generalize val_main_v103 (F := Ideal) x0 x1 = X at e ⊢
  rw [← e]
  exact host_max X _ (fun _ => Cert.Consts.ofBits_neg_inf) _ _ h r q

/-- The maximum with −∞ changes nothing. -/
theorem max_bot (a : EReal) : FloatOps.maximumf (F := Ideal) (φ := .f32) (Ideal.ofBits .f32 0xFF800000#32) a = a := by
  rw [Cert.Consts.ofBits_neg_inf]
  exact max_eq_right bot_le

/-- The largest score of a query, once more compared with −∞. -/
theorem max_at (h : Fin 16) (r : Fin 128) (q : Fin 64) :
    val_main_v106 (F := Ideal) x0 x1 (ix3 h r q) = Finset.univ.fold max ⊥ (scoreRow x0 x1 h r q) := by
  rw [val_main_v106_apply, top_at]
  exact max_bot _

/-- The exponential of a difference, in its two spellings. -/
theorem exp_sub (a b : EReal) :
    FloatOps.hostUnary (F := Ideal) (φ := .f32) .exp (FloatOps.subf (F := Ideal) (φ := .f32) a b) = Ideal.exp (a - b) := rfl

/-- The exponentials of a query's scores. -/
theorem exp_at (h : Fin 16) (r : Fin 128) (q : Fin 64) (n : Fin 512) :
    val_main_v110 (F := Ideal) x0 x1 (ix4 h r q n)
      = Ideal.exp (scoreRow x0 x1 h r q n - Finset.univ.fold max ⊥ (scoreRow x0 x1 h r q)) := by
  have e : idx_main_v107 (idx_main_v108 (ix4 h r q n)) = ix3 h r q := by
    funext a
    match a with
    | ⟨0, _⟩ => rfl
    | ⟨1, _⟩ => rfl
    | ⟨2, _⟩ => rfl
  rw [val_main_v110_apply, val_main_v109_apply, val_main_v108_apply, val_main_v107_apply, e, row_at, max_at]
  exact exp_sub _ _

/-- The sum of a query's exponentials. -/
theorem sum_at (h : Fin 16) (r : Fin 128) (q : Fin 64) :
    val_main_v111 (F := Ideal) x0 x1 (ix3 h r q)
      = ∑ n : Fin 512, Ideal.exp (scoreRow x0 x1 h r q n - Finset.univ.fold max ⊥ (scoreRow x0 x1 h r q)) := by
  simp only [← exp_at]
  unfold val_main_v111
  generalize val_main_v110 (F := Ideal) x0 x1 = X
  pointwise [val_main_cst_27]

/-- The softmax of a query's scores. -/
theorem prob_at (h : Fin 16) (r : Fin 128) (q : Fin 64) (n : Fin 512) :
    val_main_v114 (F := Ideal) x0 x1 (ix4 h r q n)
      = Ideal.div (Ideal.exp (scoreRow x0 x1 h r q n - Finset.univ.fold max ⊥ (scoreRow x0 x1 h r q)))
          (∑ n : Fin 512, Ideal.exp (scoreRow x0 x1 h r q n - Finset.univ.fold max ⊥ (scoreRow x0 x1 h r q))) := by
  rw [← sum_at, ← exp_at]
  unfold val_main_v114 val_main_v113 val_main_v112
  generalize val_main_v110 (F := Ideal) x0 x1 = X
  generalize val_main_v111 (F := Ideal) x0 x1 = Y
  pointwise []

/-- The gathered values with the eight key rows joined. -/
theorem values_at (h : Fin 16) (r : Fin 128) (n : Fin 512) (e : Fin 128) :
    val_main_v115 (F := Ideal) x0 (ix4 h r n e)
      = x0 (ix2 ⟨rowStart r.val * 64 + n.val, by have := rowStart_le r.val; omega⟩ ⟨4096 + (h.val * 128 + e.val), by omega⟩) := by
  have hv := vals_at x0 h r ⟨n.val / 64, by omega⟩ ⟨n.val % 64, by omega⟩ e
  refine Eq.trans ?_ (hv.trans (at2 x0 ?_ rfl))
  · unfold val_main_v115
    generalize val_main_v69 (F := Ideal) x0 = X
    pointwise []
  · show (rowStart r.val + n.val / 64) * 64 + n.val % 64 = rowStart r.val * 64 + n.val
    omega

/-- The attention's output by head, row and column. -/
theorem mix_at (h : Fin 16) (r : Fin 128) (q : Fin 64) (e : Fin 128) :
    val_main_v116 (F := Ideal) x0 x1 (ix4 h r q e)
      = ∑ n : Fin 512, val_main_v114 (F := Ideal) x0 x1 (ix4 h r q n) * val_main_v115 (F := Ideal) x0 (ix4 h r n e) := by
  unfold val_main_v116
  generalize val_main_v114 (F := Ideal) x0 x1 = X
  generalize val_main_v115 (F := Ideal) x0 = Y
  pointwise []

/-- The output's layout: a position is a row and a column of the image, a channel a head and one of its channels. -/
theorem lay_at (T : Fin 8192) (C : Fin 2048) : val_main_v120 (F := Ideal) x0 x1 (ix2 T C)
      = val_main_v116 (F := Ideal) x0 x1 (ix4 ⟨C.val / 128, by omega⟩ ⟨T.val / 64, by omega⟩ ⟨T.val % 64, by omega⟩ ⟨C.val % 128, by omega⟩) := by
  unfold val_main_v120 val_main_v119 val_main_v118 val_main_v117
  generalize val_main_v116 (F := Ideal) x0 x1 = X
  pointwise []

/-- An entry of the reference's output. -/
theorem ref_at (T : Fin 8192) (C : Fin 2048) : val_main_v120 (F := Ideal) x0 x1 (ix2 T C)
      = ∑ n : Fin 512, Ideal.div
          (Ideal.exp (scoreRow x0 x1 ⟨C.val / 128, by omega⟩ ⟨T.val / 64, by omega⟩ ⟨T.val % 64, by omega⟩ n
            - Finset.univ.fold max ⊥ (scoreRow x0 x1 ⟨C.val / 128, by omega⟩ ⟨T.val / 64, by omega⟩ ⟨T.val % 64, by omega⟩)))
          (∑ n : Fin 512, Ideal.exp (scoreRow x0 x1 ⟨C.val / 128, by omega⟩ ⟨T.val / 64, by omega⟩ ⟨T.val % 64, by omega⟩ n
            - Finset.univ.fold max ⊥ (scoreRow x0 x1 ⟨C.val / 128, by omega⟩ ⟨T.val / 64, by omega⟩ ⟨T.val % 64, by omega⟩)))
        * x0 (ix2 ⟨rowStart (T.val / 64) * 64 + n.val, by have := rowStart_le (T.val / 64); omega⟩ ⟨4096 + C.val, by omega⟩) := by
  rw [lay_at, mix_at]
  refine Finset.sum_congr rfl fun n _ => ?_
  rw [prob_at, values_at]
  refine congrArg _ (at2 x0 rfl ?_)
  show 4096 + (C.val / 128 * 128 + C.val % 128) = 4096 + C.val
  omega

end Cert.KernelProof
-- ==== Proof.Softmax.lean ====
/- A row of the attention: the kernel's softmax in base two over a window with masked keys, divided once at the end, is the softmax in
   base e over the unmasked window, divided key by key. -/
module

public import Idealize.ShloMosaic.PureOps.Ideal
public import Idealize.ShloMosaic.PureOps.Ideal.Laws
public import Mathlib.Analysis.SpecialFunctions.Pow.Real
public import Mathlib.Data.EReal.Operations

@[expose] public section

namespace Cert.KernelProof

open Idealize.ShloMosaic

/-- A positive finite factor goes through a sum, whatever the summands. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    rw [mul_comm _ (c : EReal), EReal.left_distrib_of_nonneg_of_ne_top (EReal.coe_nonneg.mpr hc) (EReal.coe_ne_top c)]
    simp only [mul_comm (c : EReal)]

/-- A sum of finite numbers is finite. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The row. `x` are the scores of the window, `s` those of the kernel's keys: a window's score times log2 e where `e` puts it, −∞ elsewhere. -/
theorem softmax_row {ι κ : Type*} [Fintype ι] [Fintype κ] (e : ι → κ) (he : Function.Injective e) (x : ι → EReal) (s v : κ → EReal)
    (hx : ∀ i, x i = ⊥ ∨ ∃ r : ℝ, x i = r) (h1 : ∃ i, ∃ r : ℝ, x i = r)
    (hs : ∀ i, s (e i) = x i * (((Real.log 2)⁻¹ : ℝ) : EReal)) (hs' : ∀ k, (∀ i, e i ≠ k) → s k = ⊥) :
    Ideal.div (∑ k, Ideal.exp2 (s k - Finset.univ.fold max ⊥ s) * v k) (∑ k, Ideal.exp2 (s k - Finset.univ.fold max ⊥ s))
      = ∑ i, Ideal.div (Ideal.exp (x i - Finset.univ.fold max ⊥ x)) (∑ i, Ideal.exp (x i - Finset.univ.fold max ⊥ x)) * v (e i) := by
  classical
  have hL : (0 : ℝ) < (Real.log 2)⁻¹ := inv_pos.mpr (Real.log_pos one_lt_two)
  obtain ⟨i0, r0, h0⟩ := h1
  -- the reference's maximum is finite
  have eM : (Finset.univ : Finset ι).fold max ⊥ x = Finset.univ.sup x := rfl
  have eM' : (Finset.univ : Finset κ).fold max ⊥ s = Finset.univ.sup s := rfl
  obtain ⟨i1, -, hi1⟩ := Finset.exists_mem_eq_sup Finset.univ ⟨i0, Finset.mem_univ i0⟩ x
  have hle : ∀ i, x i ≤ x i1 := fun i => hi1 ▸ Finset.le_sup (Finset.mem_univ i)
  obtain ⟨R, hR⟩ : ∃ R : ℝ, x i1 = R := by
    rcases hx i1 with h | h
    · exact absurd (hle i0) (by rw [h, h0]; exact not_le.mpr (EReal.bot_lt_coe r0))
    · exact h
  -- the kernel's is the same multiplied
  have hM : Finset.univ.sup s = ((R * (Real.log 2)⁻¹ : ℝ) : EReal) := by
    apply le_antisymm
    · refine Finset.sup_le fun k _ => ?_
      by_cases hk : ∃ i, e i = k
      · obtain ⟨i, rfl⟩ := hk
        rw [hs]
        rcases hx i with h | ⟨r, h⟩
        · rw [h, EReal.bot_mul_coe_of_pos hL]; exact bot_le
        · rw [h, ← EReal.coe_mul, EReal.coe_le_coe_iff]
          have := hle i
          rw [h, hR, EReal.coe_le_coe_iff] at this
          exact mul_le_mul_of_nonneg_right this hL.le
      · rw [hs' k fun i hi => hk ⟨i, hi⟩]; exact bot_le
    · have := Finset.le_sup (f := s) (Finset.mem_univ (e i1))
      rwa [hs, hR, ← EReal.coe_mul] at this
  rw [eM, eM', hM, hi1, hR]
  -- the weights agree
  have hp : ∀ i, ∃ ρ : ℝ, 0 ≤ ρ ∧ Ideal.exp (x i - (R : EReal)) = ρ ∧ Ideal.exp2 (s (e i) - ((R * (Real.log 2)⁻¹ : ℝ) : EReal)) = ρ
      ∧ (x i ≠ ⊥ → 0 < ρ) := by
    intro i
    rw [hs]
    rcases hx i with h | ⟨r, h⟩
    · refine ⟨0, le_rfl, ?_, ?_, fun hn => absurd h hn⟩
      · rw [h, EReal.bot_sub]; rfl
      · rw [h, EReal.bot_mul_coe_of_pos hL, EReal.bot_sub]; rfl
    · refine ⟨Real.exp (r - R), (Real.exp_pos _).le, ?_, ?_, fun _ => Real.exp_pos _⟩
      · rw [h, ← EReal.coe_sub]; rfl
      · rw [h, ← EReal.coe_mul, ← EReal.coe_sub]
        show ((Real.rpow 2 (r * (Real.log 2)⁻¹ - R * (Real.log 2)⁻¹) : ℝ) : EReal) = _
        congr 1
        show (2 : ℝ) ^ (r * (Real.log 2)⁻¹ - R * (Real.log 2)⁻¹) = _
        rw [Real.rpow_def_of_pos two_pos, ← sub_mul, mul_comm (r - R), ← mul_assoc, mul_inv_cancel₀ (Real.log_pos one_lt_two).ne', one_mul]
  choose ρ hρ0 hρ hρ2 hρp using hp
  have off : ∀ k, (∀ i, e i ≠ k) → Ideal.exp2 (s k - ((R * (Real.log 2)⁻¹ : ℝ) : EReal)) = 0 := fun k hk => by
    rw [hs' k hk, EReal.bot_sub]; rfl
  have hnum : ∑ k, Ideal.exp2 (s k - ((R * (Real.log 2)⁻¹ : ℝ) : EReal)) * v k = ∑ i, ((ρ i : ℝ) : EReal) * v (e i) := by
    refine (Finset.sum_of_injOn e he.injOn (fun _ _ => Finset.mem_coe.mpr (Finset.mem_univ _)) (fun k _ hk => ?_) fun i _ => ?_).symm
    · rw [off k fun i hi => hk ⟨i, Finset.mem_coe.mpr (Finset.mem_univ _), hi⟩, zero_mul]
    · rw [hρ2]
  have hden : ∑ k, Ideal.exp2 (s k - ((R * (Real.log 2)⁻¹ : ℝ) : EReal)) = ((∑ i, ρ i : ℝ) : EReal) := by
    rw [← sum_coe]
    refine (Finset.sum_of_injOn e he.injOn (fun _ _ => Finset.mem_coe.mpr (Finset.mem_univ _)) (fun k _ hk => ?_) fun i _ => ?_).symm
    · exact off k fun i hi => hk ⟨i, Finset.mem_coe.mpr (Finset.mem_univ _), hi⟩
    · rw [hρ2]
  have hden' : ∑ i, Ideal.exp (x i - (R : EReal)) = ((∑ i, ρ i : ℝ) : EReal) := by
    rw [← sum_coe]; exact Finset.sum_congr rfl fun i _ => hρ i
  have hσ : (0 : ℝ) < ∑ i, ρ i :=
    lt_of_lt_of_le (hρp i0 (by rw [h0]; exact EReal.coe_ne_bot r0)) (Finset.single_le_sum (fun i _ => hρ0 i) (Finset.mem_univ i0))
  rw [hnum, hden, hden', Ideal.div_coe hσ.ne', sum_mul_coe _ _ _ (by positivity)]
  refine Finset.sum_congr rfl fun i _ => ?_
  rw [hρ, Ideal.div_coe hσ.ne', mul_right_comm]

end Cert.KernelProof
-- ==== Proof.NattenMix.lean ====
module

public import proofs.«01_k».proof.Defs
public import proofs.«01_k».proof.Proof.Consts
public import proofs.«01_k».proof.Proof.NattenBlock
public import proofs.«01_k».proof.Proof.NattenRef
public import proofs.«01_k».proof.Proof.Softmax
public import proofs.«01_k».proof.Proof.NattenTables
public import Idealize.ShloMosaic.Lib.Pipeline.ValueKit

@[expose] public section

noncomputable section

namespace Cert.KernelProof

open Idealize.ShloMosaic Idealize.ShloMosaic.TcCoe Idealize.SL.Sem

/-- log 2 is positive. -/
theorem log2_pos : 0 < Real.log 2 := Real.log_pos one_lt_two

/-- √128 is positive. -/
theorem sqrt128_pos : 0 < Real.sqrt 128 := Real.sqrt_pos.mpr (by norm_num)

/-- The scale the queries arrive with. -/
theorem scale_eq : Ideal.div 1 (Ideal.log (Ideal.ofBits FTy.f32 1073741824#32) * Ideal.sqrt (Ideal.ofBits FTy.f32 1124073472#32))
    = ((1 / (Real.log 2 * Real.sqrt 128) : ℝ) : EReal) := by
  have h2 : Ideal.log ((2 : ℝ) : EReal) = ((Real.log 2 : ℝ) : EReal) := by
    show (if (2 : ℝ) ≤ 0 then ⊥ else ((Real.log 2 : ℝ) : EReal)) = _
    rw [if_neg (by norm_num)]
  have h128 : Ideal.sqrt ((128 : ℝ) : EReal) = ((Real.sqrt 128 : ℝ) : EReal) := by
    show (if (128 : ℝ) < 0 then ⊥ else ((Real.sqrt 128 : ℝ) : EReal)) = _
    rw [if_neg (by norm_num)]
  rw [Cert.Consts.ofBits_2, Cert.Consts.ofBits_128, h2, h128, ← EReal.coe_mul, Ideal.div_coe (mul_pos log2_pos sqrt128_pos).ne', one_mul]

/-- The reference's scale is 1/√128. -/
theorem root_eq : Ideal.div 1 (Ideal.sqrt (Ideal.ofBits FTy.f32 1124073472#32)) = ((1 / Real.sqrt 128 : ℝ) : EReal) := by
  have h128 : Ideal.sqrt ((128 : ℝ) : EReal) = ((Real.sqrt 128 : ℝ) : EReal) := by
    show (if (128 : ℝ) < 0 then ⊥ else ((Real.sqrt 128 : ℝ) : EReal)) = _
    rw [if_neg (by norm_num)]
  rw [Cert.Consts.ofBits_128, h128, Ideal.div_coe sqrt128_pos.ne', one_mul]

/-- The reference's score of finite operands, and its value to base 2. -/
theorem score_real (f g : Fin 128 → ℝ) (b : ℝ) :
    (∑ e, Ideal.div (f e : EReal) (Ideal.div 1 (Ideal.log (Ideal.ofBits FTy.f32 1073741824#32) * Ideal.sqrt (Ideal.ofBits FTy.f32 1124073472#32)))
        * (g e : EReal)) * Ideal.div 1 (Ideal.sqrt (Ideal.ofBits FTy.f32 1124073472#32)) + (b : EReal)
      = (((∑ e, f e * g e) * Real.log 2 + b : ℝ) : EReal) := by
  have hl := log2_pos
  have hs := sqrt128_pos
  rw [scale_eq, root_eq]
  have h1 : (1 / (Real.log 2 * Real.sqrt 128) : ℝ) ≠ 0 := (one_div_pos.mpr (mul_pos hl hs)).ne'
  have e1 : ∀ e, Ideal.div (f e : EReal) ((1 / (Real.log 2 * Real.sqrt 128) : ℝ) : EReal) * (g e : EReal)
      = ((f e * (1 / (1 / (Real.log 2 * Real.sqrt 128))) * g e : ℝ) : EReal) := fun e => by
    rw [Ideal.div_coe h1, ← EReal.coe_mul, ← EReal.coe_mul]
  simp only [e1]
  rw [sum_coe, ← EReal.coe_mul, ← EReal.coe_add]
  congr 2
  rw [Finset.sum_mul, Finset.sum_mul]
  refine Finset.sum_congr rfl fun e _ => ?_
  field_simp

/-- The kernel's score, of real queries, keys and biases, is the reference's to base 2. -/
theorem score_two (f g : Fin 128 → ℝ) (b : ℝ) :
    (∑ e, (f e : EReal) * (g e : EReal)) + (b : EReal) * (((Real.log 2)⁻¹ : ℝ) : EReal)
      = (((∑ e, f e * g e) * Real.log 2 + b : ℝ) : EReal) * (((Real.log 2)⁻¹ : ℝ) : EReal) := by
  have hl := log2_pos
  simp only [← EReal.coe_mul]
  rw [sum_coe, ← EReal.coe_add]
  congr 1
  field_simp

/-- The named constant is 1 / log 2. -/
theorem log2e_eq : Named.named (F := Ideal) Cert.KernelIdeal.κ "log2e" (φ := .f32) 1069066811#32 = (((Real.log 2)⁻¹ : ℝ) : EReal) :=
  IdealRules.named_const.ideal_named_scalar _ _ _ _ rfl

/-- The first key row of a query row lies in the twelve rows its group reads, four from the last at most. -/
theorem rowStart_ge (g q : ℕ) (hg : g < 32) (hq : q < 4) : keyRow g ≤ rowStart (4 * g + q) ∧ rowStart (4 * g + q) ≤ keyRow g + 4 := by
  unfold keyRow rowStart
  omega

/-- A window's row passes a group's mask exactly when it is one of the eight rows its query row attends to. -/
theorem rowOk_iff (g q k : ℕ) (hg : g < 32) (hq : q < 4) (hk : k < 12) :
    RowOk (tableOf g) q k ↔ rowStart (4 * g + q) ≤ keyRow g + k ∧ keyRow g + k < rowStart (4 * g + q) + 8 := by
  unfold tableOf keyRow rowStart RowOk
  split_ifs <;> simp only [reduceCtorEq, forall_const, true_and, and_true, false_imp_iff, zero_ne_one, one_ne_zero, OfNat.ofNat_ne_zero, OfNat.zero_ne_ofNat, OfNat.ofNat_ne_one, OfNat.one_ne_ofNat, true_imp_iff, true_implies, Nat.reduceEqDiff] <;> omega

/-- Where the pair table is read for a row of the window, counted from the query's row. -/
theorem tableRow (g q k : ℕ) (hg : g < 32) (hq : q < 4) (hk : k < 12) (h : rowStart (4 * g + q) ≤ keyRow g + k)
    (h' : keyRow g + k < rowStart (4 * g + q) + 8) :
    2 * (k / 2 + 2 * (2 - tableOf g)) + 3 - q + k % 2 = keyRow g + k + 11 - (4 * g + q) := by
  unfold tableOf keyRow rowStart at *
  split_ifs at * <;> omega

/-- The same with the row of the window written as a key's place. -/
theorem tableIndex (rs kr n T a q u : ℕ) (hlo : kr ≤ rs) (hq : q = a % 256 / 64)
    (h : 2 * (((rs - kr) * 64 + n) / 64 / 2 + 2 * (2 - T)) + 3 - q + ((rs - kr) * 64 + n) / 64 % 2 = kr + ((rs - kr) * 64 + n) / 64 + 11 - u) :
    2 * (((rs - kr) * 64 + n) / 128 + 2 * (2 - T)) + 3 - a % 256 / 64 + ((rs - kr) * 64 + n) % 128 / 64 = rs + n / 64 + 11 - u := by
  rw [← hq]
  have e1 : ((rs - kr) * 64 + n) / 128 = ((rs - kr) * 64 + n) / 64 / 2 := by omega
  have e2 : ((rs - kr) * 64 + n) % 128 / 64 = ((rs - kr) * 64 + n) / 64 % 2 := by omega
  have e3 : kr + ((rs - kr) * 64 + n) / 64 = rs + n / 64 := by omega
  rw [e1, e2, h, e3]

/-- The first attended row is at most seven above the query's. -/
theorem rowStart_add (g q : ℕ) (hg : g < 32) (hq : q < 4) : 4 * g + q ≤ rowStart (4 * g + q) + 7 := by
  unfold rowStart
  omega

set_option maxHeartbeats 2000000 in
/-- A point's block of the output is the reference's, entry by entry. -/
theorem mix (x0 : (⟨2, ![8192, 6144]⟩ : Shape).Idx → EReal) (x1 : (⟨3, ![16, 15, 31]⟩ : Shape).Idx → EReal)
    (h0 : ∀ (a : Fin 8192) (b : Fin 6144), b.val < 4096 → ∃ r : ℝ, x0 (ix2 a b) = r) (h1 : ∀ a b c, ∃ r : ℝ, x1 (ix3 a b c) = r)
    (Q : (⟨2, ![2048, 256]⟩ : Shape).Idx → EReal) (K V : (⟨2, ![8192, 256]⟩ : Shape).Idx → EReal)
    (P : (⟨4, ![2, 22, 64, 128]⟩ : Shape).Idx → EReal) (M : (⟨3, ![3, 256, 768]⟩ : Shape).Idx → EReal)
    (hs gs : ℕ) (hhs : hs < 8) (hgs : gs < 4)
    (hQ : ∀ (a : Fin 2048) (b : Fin 256), Q (ix2 a b) = x0 (ix2 ⟨2048 * gs + a.val, by omega⟩ ⟨256 * hs + b.val, by omega⟩))
    (hK : ∀ (a : Fin 8192) (b : Fin 256), K (ix2 a b) = x0 (ix2 a ⟨2048 + (256 * hs + b.val), by omega⟩))
    (hV : ∀ (a : Fin 8192) (b : Fin 256), V (ix2 a b) = x0 (ix2 a ⟨4096 + (256 * hs + b.val), by omega⟩))
    (hP : ∀ (h : Fin 2) (i : Fin 22) (q : Fin 64) (l : Fin 128) (ha : 4 ≤ i.val + l.val / 64) (hb : i.val + l.val / 64 < 19),
      P (ix4 h i q l) = x1 (ix3 ⟨2 * hs + h.val, by omega⟩ ⟨i.val + l.val / 64 - 4, by omega⟩ ⟨colOff (l.val % 64) q.val, colOff_lt _ _⟩))
    (hM : ∀ (a : Fin 3) (b : Fin 256) (d : Fin 768), M (ix3 a b d)
      = if RowOk a.val (b.val / 64) (d.val / 64) ∧ ColOk (b.val % 64) (d.val % 64) then (0 : EReal) else ⊥)
    (a : Fin 2048) (b : Fin 256) :
    blockOut Q K V (biasOf P M) gs (ix2 a b)
      = Cert.ReferenceIdeal.Read.val_main_v120 (F := Ideal) x0 x1 (ix2 ⟨2048 * gs + a.val, by omega⟩ ⟨256 * hs + b.val, by omega⟩) := by
  have ha := a.isLt
  have hb := b.isLt
  rw [ref_at]
  obtain ⟨g, hg⟩ : ∃ g, g = 8 * gs + a.val / 256 := ⟨_, rfl⟩
  obtain ⟨qr, hqr⟩ : ∃ q, q = a.val % 256 / 64 := ⟨_, rfl⟩
  have hg32 : g < 32 := by omega
  have hq4 : qr < 4 := by omega
  have hr : (2048 * gs + a.val) / 64 = 4 * g + qr := by omega
  obtain ⟨hlo, hhi⟩ := rowStart_ge g qr hg32 hq4
  obtain ⟨X, hX⟩ : ∃ X, X = scoreRow x0 x1 ⟨(256 * hs + b.val) / 128, by omega⟩ ⟨(2048 * gs + a.val) / 64, by omega⟩
    ⟨(2048 * gs + a.val) % 64, by omega⟩ := ⟨_, rfl⟩
  obtain ⟨S, hS⟩ : ∃ S, S = scores Q K (biasOf P M) (8 * gs + a.val / 256) (b.val / 128) a.val (by omega) a.isLt := ⟨_, rfl⟩
  -- one key: real where attended, with the kernel's score its value to base 2
  have key : ∀ n : Fin 512, ColOk ((2048 * gs + a.val) % 64) (n.val % 64) →
      ∃ r : ℝ, X n = r ∧ S ⟨(rowStart (4 * g + qr) - keyRow g) * 64 + n.val, by omega⟩ = (r : EReal) * (((Real.log 2)⁻¹ : ℝ) : EReal) := by
    intro n hn
    have hn' := n.isLt
    have hle := rowStart_le (4 * g + qr)
    have hrow : rowStart (4 * g + qr) + n.val / 64 + 7 - (4 * g + qr) < 15 := by unfold rowStart; omega
    choose f hf using fun e : Fin 128 => h0 ⟨2048 * gs + a.val, by omega⟩ ⟨256 * hs + (b.val / 128 * 128 + e.val), by omega⟩
      (by show 256 * hs + (b.val / 128 * 128 + e.val) < 4096; omega)
    choose k hk using fun e : Fin 128 => h0 ⟨rowStart (4 * g + qr) * 64 + n.val, by omega⟩ ⟨2048 + (256 * hs + (b.val / 128 * 128 + e.val)), by omega⟩
      (by show 2048 + (256 * hs + (b.val / 128 * 128 + e.val)) < 4096; omega)
    obtain ⟨d, hd⟩ := h1 ⟨2 * hs + b.val / 128, by omega⟩ ⟨rowStart (4 * g + qr) + n.val / 64 + 7 - (4 * g + qr), hrow⟩
      ⟨colOff (n.val % 64) ((2048 * gs + a.val) % 64), colOff_lt _ _⟩
    refine ⟨(∑ e, f e * k e) * Real.log 2 + d, ?_, ?_⟩
    · rw [← score_real, hX]
      unfold scoreRow score
      refine (if_pos hn).trans ?_
      refine congrArg₂ (· + ·) (congrArg (· * _) (Finset.sum_congr rfl fun e _ => ?_)) ?_
      · refine congrArg₂ (fun u v : EReal => Ideal.div u _ * v) ((at2 x0 ?_ ?_).trans (hf e)) ((at2 x0 ?_ ?_).trans (hk e))
        · show (2048 * gs + a.val) / 64 * 64 + (2048 * gs + a.val) % 64 = 2048 * gs + a.val
          omega
        · show (256 * hs + b.val) / 128 * 128 + e.val = 256 * hs + (b.val / 128 * 128 + e.val)
          omega
        · show (rowStart ((2048 * gs + a.val) / 64) + n.val / 64) * 64 + n.val % 64 = rowStart (4 * g + qr) * 64 + n.val
          rw [hr]
          omega
        · show 2048 + ((256 * hs + b.val) / 128 * 128 + e.val) = 2048 + (256 * hs + (b.val / 128 * 128 + e.val))
          omega
      · refine (at3 x1 ?_ ?_ rfl).trans hd
        · show (256 * hs + b.val) / 128 = 2 * hs + b.val / 128
          omega
        · show rowStart ((2048 * gs + a.val) / 64) + n.val / 64 + 7 - (2048 * gs + a.val) / 64 = rowStart (4 * g + qr) + n.val / 64 + 7 - (4 * g + qr)
          rw [hr]
    · rw [← score_two, hS]
      have hK' : ((rowStart (4 * g + qr) - keyRow g) * 64 + n.val) / 64 = rowStart (4 * g + qr) - keyRow g + n.val / 64 := by omega
      have hC' : ((rowStart (4 * g + qr) - keyRow g) * 64 + n.val) % 64 = n.val % 64 := by omega
      have hok : RowOk (tableOf g) qr (((rowStart (4 * g + qr) - keyRow g) * 64 + n.val) / 64) :=
        (rowOk_iff g qr _ hg32 hq4 (by omega)).mpr (by omega)
      have htab := tableRow g qr (((rowStart (4 * g + qr) - keyRow g) * 64 + n.val) / 64) hg32 hq4 (by omega) (by omega) (by omega)
      refine congrArg₂ (· + ·) (Finset.sum_congr rfl fun e _ => ?_) ?_
      · refine congrArg₂ (· * ·) ((hQ _ _).trans (hf e)) ((hK _ _).trans ((at2 x0 ?_ rfl).trans (hk e)))
        show 64 * keyRow (8 * gs + a.val / 256) + ((rowStart (4 * g + qr) - keyRow g) * 64 + n.val) = rowStart (4 * g + qr) * 64 + n.val
        rw [← hg]
        omega
      · unfold biasOf
        refine congrArg₂ (· * ·) ?_ log2e_eq
        have hm := hM ⟨tableOf (8 * gs + a.val / 256), tableOf_lt _⟩ ⟨a.val % 256, by omega⟩
          ⟨(rowStart (4 * g + qr) - keyRow g) * 64 + n.val, by omega⟩
        rw [if_pos ⟨by rw [← hg]; show RowOk _ (a.val % 256 / 64) _; rw [← hqr]; exact hok, by
          show ColOk (a.val % 256 % 64) (((rowStart (4 * g + qr) - keyRow g) * 64 + n.val) % 64)
          rw [hC', show a.val % 256 % 64 = (2048 * gs + a.val) % 64 by omega]
          exact hn⟩] at hm
        refine (congrArg₂ (· + ·) ?_ hm).trans (add_zero _)
        rw [← hg] at *
        have hi : 2 * (((rowStart (4 * g + qr) - keyRow g) * 64 + n.val) / 128 + 2 * (2 - tableOf g)) + 3 - a.val % 256 / 64
            + ((rowStart (4 * g + qr) - keyRow g) * 64 + n.val) % 128 / 64
            = rowStart (4 * g + qr) + n.val / 64 + 11 - (4 * g + qr) :=
          tableIndex _ _ _ _ _ _ _ hlo hqr htab
        have hrs : 4 * g + qr ≤ rowStart (4 * g + qr) + 7 := rowStart_add g qr hg32 hq4
        refine (hP _ _ _ _ ?_ ?_).trans ((at3 x1 rfl ?_ ?_).trans hd)
        · refine le_of_le_of_eq ?_ hi.symm
          omega
        · refine lt_of_eq_of_lt hi ?_
          omega
        · refine (congrArg (· - 4) hi).trans ?_
          show rowStart (4 * g + qr) + n.val / 64 + 11 - (4 * g + qr) - 4 = rowStart (4 * g + qr) + n.val / 64 + 7 - (4 * g + qr)
          omega
        · refine congrArg₂ colOff ?_ ?_
          · show ((rowStart (4 * g + qr) - keyRow g) * 64 + n.val) % 128 % 64 = n.val % 64
            omega
          · show a.val % 256 % 64 = (2048 * gs + a.val) % 64
            omega
  have off : ∀ k : Fin 768, ¬ (RowOk (tableOf g) qr (k.val / 64) ∧ ColOk ((2048 * gs + a.val) % 64) (k.val % 64)) → S k = ⊥ := by
    intro k hk
    have hm := hM ⟨tableOf (8 * gs + a.val / 256), tableOf_lt _⟩ ⟨a.val % 256, by omega⟩ k
    rw [if_neg (by
      rw [← hg]
      show ¬ (RowOk _ (a.val % 256 / 64) _ ∧ ColOk (a.val % 256 % 64) _)
      rw [← hqr, show a.val % 256 % 64 = (2048 * gs + a.val) % 64 by omega]
      exact hk)] at hm
    rw [hS]
    unfold scores biasOf
    refine (congrArg (_ + ·) ((congrArg₂ (· * ·) ((congrArg (_ + ·) hm).trans (EReal.add_bot _)) log2e_eq).trans
      (EReal.bot_mul_coe_of_pos (inv_pos.mpr log2_pos)))).trans (EReal.add_bot _)
  have offX : ∀ n : Fin 512, ¬ ColOk ((2048 * gs + a.val) % 64) (n.val % 64) → X n = ⊥ := by
    intro n hn
    rw [hX]
    unfold scoreRow score
    exact if_neg hn
  show attn _ _ = _
  rw [← hX]
  refine (congrArg (fun s => attn s _) hS.symm).trans ?_
  refine (softmax_row (fun n : Fin 512 => (⟨(rowStart (4 * g + qr) - keyRow g) * 64 + n.val, by omega⟩ : Fin 768))
    (fun n n' e => Fin.ext (by have := congrArg Fin.val e; dsimp only at this; omega)) X S _ ?_ ?_ ?_ ?_).trans ?_
  · intro n
    by_cases hn : ColOk ((2048 * gs + a.val) % 64) (n.val % 64)
    · obtain ⟨r, hr, -⟩ := key n hn
      exact Or.inr ⟨r, hr⟩
    · exact Or.inl (offX n hn)
  · have hc : colStart ((2048 * gs + a.val) % 64) < 64 := by unfold colStart; omega
    obtain ⟨r, hr, -⟩ := key ⟨colStart ((2048 * gs + a.val) % 64), by omega⟩ (by
      unfold ColOk
      dsimp only
      omega)
    exact ⟨_, r, hr⟩
  · intro n
    by_cases hn : ColOk ((2048 * gs + a.val) % 64) (n.val % 64)
    · obtain ⟨r, hr, hs⟩ := key n hn
      rw [hr, hs]
    · rw [offX n hn, EReal.bot_mul_coe_of_pos (inv_pos.mpr log2_pos)]
      refine off _ fun h => hn ?_
      have e : ((rowStart (4 * g + qr) - keyRow g) * 64 + n.val) % 64 = n.val % 64 := by omega
      rw [← e]
      exact h.2
  · intro k hk
    refine off k fun h => ?_
    have hk' := k.isLt
    have := (rowOk_iff g qr (k.val / 64) hg32 hq4 (by omega)).mp h.1
    refine hk ⟨k.val - (rowStart (4 * g + qr) - keyRow g) * 64, by omega⟩ (Fin.ext ?_)
    show (rowStart (4 * g + qr) - keyRow g) * 64 + (k.val - (rowStart (4 * g + qr) - keyRow g) * 64) = k.val
    omega
  · refine Finset.sum_congr rfl fun n _ => congrArg _ ?_
    refine (hV _ _).trans (at2 x0 ?_ rfl)
    show 64 * keyRow (8 * gs + a.val / 256) + ((rowStart (4 * g + qr) - keyRow g) * 64 + n.val) = rowStart ((2048 * gs + a.val) / 64) * 64 + n.val
    rw [hr, ← hg]
    omega

end Cert.KernelProof
-- ==== Proof.Natten.lean ====
module

public import proofs.«01_k».proof.Defs
public import proofs.«01_k».proof.Proof.Consts
public import proofs.«01_k».proof.Proof.Gen.KernelIdeal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise
public import proofs.«01_k».proof.Proof.NattenBlock
public import proofs.«01_k».proof.Proof.NattenMix
public import proofs.«01_k».proof.Proof.NattenTables
public import proofs.«01_k».proof.Proof.Gen.ReferenceIdeal.Run
public import proofs.«01_k».proof.Proof.Gen.ReferenceIdeal.Read
public import proofs.«01_k».proof.Proof.Gen.Pre_finite_scores

@[expose] public section

set_option maxRecDepth 16384

noncomputable section

namespace Cert.KernelProof

open Cert.KernelIdeal Cert.KernelIdeal.Gen Idealize.ShloMosaic Idealize.ShloMosaic.TcCoe Idealize.SL.Sem

variable (m : (ℓ : Loc nD τ sig) → Buf (Elt Ideal) ℓ)

/-- Which block of its array each window takes at each point. -/
theorem idx : ∀ t : Fin cfg0.N, win0_0.index t = ![t.val % 4, t.val / 4] ∧ win0_1.index t = ![0, 8 + t.val / 4]
    ∧ win0_2.index t = ![0, 16 + t.val / 4] ∧ win0_3.index t = ![t.val / 4, 0, 0, 0] ∧ win0_4.index t = ![0, 0, 0]
    ∧ win0_5.index t = ![1, t.val, 0] ∧ win0_6.index t = ![1, t.val, 0] ∧ win0_7.index t = ![t.val % 4, t.val / 4]
    ∧ win0_8.index t = ![0, t.val, 0] ∧ win0_9.index t = ![0, t.val, 0] := by
  decide +kernel

/-- The copied block of the first weight. -/
theorem out8 (c : Dev nD) (t : Fin cfg0.N) : (outsAt0 m c t.val t.isLt).2.1 = k0_pay191 (iblk m c 5 t) := by
  by_cases h : t.val % 4 = 0
  · rw [outsAt0_A m c t h]
    frame_out
  · rw [outsAt0_B m c t h]
    frame_out

/-- The copied block of the second weight. -/
theorem out9 (c : Dev nD) (t : Fin cfg0.N) : (outsAt0 m c t.val t.isLt).2.2.1 = k0_pay192 (iblk m c 6 t) := by
  by_cases h : t.val % 4 = 0
  · rw [outsAt0_A m c t h]
    frame_out
  · rw [outsAt0_B m c t h]
    frame_out

set_option maxHeartbeats 4000000 in
/-- The copy of the first weight. -/
theorem arr8 (c : Dev nD) : (dats m 0 c).arrAt 8 cfg0.N
    = Cert.ReferenceIdeal.Read.val_main_v122 (F := Ideal) (m ((c : Thread nD τ).loc main_arg2)) := by
  refine (dats m 0 c).arrAt_eq_of_covers 8 _ (by decide +kernel) fun t hf y => ?_
  blk_simp
  rw [after0_8, out8]
  obtain ⟨-, -, -, -, -, e5, -, -, e8, -⟩ := idx t
  idx_vars y
  pointwise [k0_pay191, Cert.ReferenceIdeal.Read.val_main_v121, Cert.ReferenceIdeal.Read.val_main_v122]
  blk_point [iblk, V_main_arg2, e5, e8]

set_option maxHeartbeats 4000000 in
/-- The copy of the second weight. -/
theorem arr9 (c : Dev nD) : (dats m 0 c).arrAt 9 cfg0.N
    = Cert.ReferenceIdeal.Read.val_main_v124 (F := Ideal) (m ((c : Thread nD τ).loc main_arg3)) := by
  refine (dats m 0 c).arrAt_eq_of_covers 9 _ (by decide +kernel) fun t hf y => ?_
  blk_simp
  rw [after0_9, out9]
  obtain ⟨-, -, -, -, -, -, e6, -, -, e9⟩ := idx t
  idx_vars y
  pointwise [k0_pay192, Cert.ReferenceIdeal.Read.val_main_v123, Cert.ReferenceIdeal.Read.val_main_v124]
  blk_point [iblk, V_main_arg3, e6, e9]

/-- The grid has 32 points. -/
theorem points (t : Fin cfg0.N) : t.val < 32 := t.isLt

/-- The query block of a point. -/
theorem q_at (c : Dev nD) (t : Fin cfg0.N) (a : Fin 2048) (b : Fin 256) :
    iblk m c 0 t (ix2 a b) = m ((c.tc : Thread nD τ).loc main_arg0)
      (ix2 ⟨2048 * (t.val % 4) + a.val, by omega⟩ ⟨256 * (t.val / 4) + b.val, by have := points t; omega⟩) := by
  obtain ⟨e0, -⟩ := idx t
  blk_point [iblk, V_main_arg0, e0]

/-- The key block of a point. -/
theorem k_at (c : Dev nD) (t : Fin cfg0.N) (a : Fin 8192) (b : Fin 256) :
    iblk m c 1 t (ix2 a b) = m ((c.tc : Thread nD τ).loc main_arg0)
      (ix2 a ⟨2048 + (256 * (t.val / 4) + b.val), by have := points t; omega⟩) := by
  obtain ⟨-, e1, -⟩ := idx t
  blk_point [iblk, V_main_arg0, e1]

/-- The value block of a point. -/
theorem v_at (c : Dev nD) (t : Fin cfg0.N) (a : Fin 8192) (b : Fin 256) :
    iblk m c 2 t (ix2 a b) = m ((c.tc : Thread nD τ).loc main_arg0)
      (ix2 a ⟨4096 + (256 * (t.val / 4) + b.val), by have := points t; omega⟩) := by
  obtain ⟨-, -, e2, -⟩ := idx t
  blk_point [iblk, V_main_arg0, e2]

/-- The pair table of a point. -/
theorem p_at (c : Dev nD) (t : Fin cfg0.N) (h : Fin 2) (i : Fin 22) (q : Fin 64) (l : Fin 128) :
    iblk m c 3 t (ix4 h i q l) = V m c main_v63 (ix4 ⟨2 * (t.val / 4) + h.val, by have := points t; omega⟩ i q l) := by
  obtain ⟨-, -, -, e3, -⟩ := idx t
  blk_point [iblk, e3]

/-- The mask tables of a point. -/
theorem m_at (c : Dev nD) (t : Fin cfg0.N) (a : Fin 3) (b : Fin 256) (d : Fin 768) :
    iblk m c 4 t (ix3 a b d) = V m c main_v40 (ix3 a b d) := by
  obtain ⟨-, -, -, -, e4, -⟩ := idx t
  blk_point [iblk, e4]

/-- The attention's output after the run is the reference's, where the query, key and bias entries are real. -/
theorem arr7 (c : Dev nD)
    (h0 : ∀ (a : Fin 8192) (b : Fin 6144), b.val < 4096 → ∃ r : ℝ, (m ((c.tc : Thread nD τ).loc main_arg0) (ix2 a b) : EReal) = (r : EReal))
    (h1 : ∀ a b d, ∃ r : ℝ, (m ((c.tc : Thread nD τ).loc main_arg1) (ix3 a b d) : EReal) = (r : EReal)) : (dats m 0 c).arrAt 7 cfg0.N
    = Cert.ReferenceIdeal.Read.val_main_v120 (F := Ideal) (m ((c : Thread nD τ).loc main_arg0)) (m ((c : Thread nD τ).loc main_arg1)) := by
  refine (dats m 0 c).arrAt_eq_of_covers 7 _ (by decide +kernel) fun t hf y => ?_
  have ht := points t
  blk_simp
  rw [after0_7]
  idx_vars y
  refine (out m c t _).trans ?_
  refine (mix _ _ h0 h1 _ _ _ _ _ (t.val / 4) (t.val % 4) (by omega) (by omega) (q_at m c t) (k_at m c t) (v_at m c t) ?_ ?_ _ _).trans ?_
  · intro h i q l ha hb
    refine (p_at m c _ h i q l).trans ((pair_at m c _ i q l ha hb).trans (at3 _ ?_ rfl rfl))
    show 2 * (4 * (t.val / 4) / 4) + h.val = 2 * (t.val / 4) + h.val
    omega
  · intro a b d
    exact (m_at m c _ a b d).trans (mask_at m c a b d)
  · obtain ⟨-, -, -, -, -, -, -, e7, -⟩ := idx t
    generalize Cert.ReferenceIdeal.Read.val_main_v120 (F := Ideal) (m ((c : Thread nD τ).loc main_arg0)) (m ((c : Thread nD τ).loc main_arg1)) = R
    blk_point [e7]

/-- A number whose absolute value is below the top is real. -/
theorem real_of_lt (x : EReal) (h : Ideal.cmp .olt (max x (-x)) ⊤ = 1#1) : ∃ r : ℝ, x = r := by
  induction x using EReal.rec with
  | bot => simp [Ideal.cmp] at h
  | top => simp [Ideal.cmp] at h
  | coe r => exact ⟨r, rfl⟩

/-- Where the precondition holds, the queries and the keys are real. -/
theorem real0 (h : Cert.Pre_KernelIdeal_finite_scores m) (c : Dev nD) (a : Fin 8192) (b : Fin 6144) (hb : b.val < 4096) :
    ∃ r : ℝ, (m ((c.tc : Thread nD τ).loc main_arg0) (ix2 a b) : EReal) = (r : EReal) := by
  have e := congrFun (h c).1 (ix2 a ⟨b.val, hb⟩)
  refine real_of_lt _ (Eq.trans ?_ e)
  pointwise [Cert.Pre_finite_scores.fn]
  rw [Cert.Consts.ofBits_inf]
  rfl

/-- Where the precondition holds, the bias entries are real. -/
theorem real1 (h : Cert.Pre_KernelIdeal_finite_scores m) (c : Dev nD) (a : Fin 16) (b : Fin 15) (d : Fin 31) :
    ∃ r : ℝ, (m ((c.tc : Thread nD τ).loc main_arg1) (ix3 a b d) : EReal) = (r : EReal) := by
  have e := congrFun (h c).2 (ix3 a b d)
  refine real_of_lt _ (Eq.trans ?_ e)
  pointwise [Cert.Pre_finite_scores.fn]
  rw [Cert.Consts.ofBits_inf]
  rfl

/-- The kernel and the reference end with equal results from equal arguments with real queries, keys and biases. -/
theorem algebraic : Cert.algebraic_KernelIdeal_ReferenceIdeal_pre_finite_scores := by
  intro m ρ m' ρ' hpre hagree
  refine ⟨fun c => Cert.ReferenceIdeal.Read.val_main_v120 (F := Ideal) (m ((c.tc : Thread nD τ).loc main_arg0)) (m ((c.tc : Thread nD τ).loc main_arg1)),
    fun c => Cert.ReferenceIdeal.Read.val_main_v122 (F := Ideal) (m ((c.tc : Thread nD τ).loc main_arg2)),
    fun c => Cert.ReferenceIdeal.Read.val_main_v124 (F := Ideal) (m ((c.tc : Thread nD τ).loc main_arg3)), ?_, ?_⟩
  · exact (θ_run Cert.KernelIdeal.defs _ _).mono
      (fun r h c => ⟨(h c).1.trans (arr7 m c (real0 m hpre c) (real1 m hpre c)), (h c).2.1.trans (arr8 m c), (h c).2.2.1.trans (arr9 m c), (h c).2.2.2⟩)
      (Cert.KernelIdeal.Value.run_blocks m ρ)
  · refine (θ_run Cert.ReferenceIdeal.defs _ _).mono (fun _ h c => ?_) (Cert.ReferenceIdeal.Value.run (F := Ideal) m' ρ')
    obtain ⟨h0, h1, h2, h3⟩ := hagree c
    exact ⟨(h c).1.trans ((Cert.ReferenceIdeal.Read.val_main_v120_eq _ _).trans (by rw [h0, h1])),
      (h c).2.1.trans ((Cert.ReferenceIdeal.Read.val_main_v122_eq _).trans (by rw [h2])),
      (h c).2.2.1.trans ((Cert.ReferenceIdeal.Read.val_main_v124_eq _).trans (by rw [h3])), (h c).2.2.2⟩

end Cert.KernelProof
-- ==== Proof.MlpIdealFrame.lean ====
/- The frame of the squared-ReLU MLP's call, its ideal form: the grid's point `t` is step `t % 16` of the block of rows `t / 16`. The
   first eight steps each fill one slice of the scratch with a block of the hidden layer (in a slice order that reverses from
   one block of rows to the next) and leave the output's buffer alone; the last eight read the whole scratch and write one block
   of the output each. Between the points the invariant says which slices hold what. -/
module

public import proofs.«01_k».proof.Proof.Gen.MlpIdeal.Frame
public import proofs.«01_k».proof.Proof.Gen.MlpIdeal.Skeleton
public import proofs.«01_k».proof.Proof.Gen.MlpIdeal.Points
public import Idealize.ShloMosaic.Lib.Pipeline.FrameBody
public import Idealize.ShloMosaic.Lib.Pipeline.ValueKit.Acc
public import Idealize.ShloMosaic.Lib.ViewIndex
public import Idealize.ShloMosaic.Lib.Claim
public import Idealize.ShloMosaic.Lib.Ring
public import Idealize.ShloMosaic.Lib.Tactic

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two kinds of points -/

/-- The first branch is taken at the first eight steps of a block of rows, -/
theorem up_iff : ∀ t : Fin cfg0.N, k0_cond1 (grid0.coords t) = 1#1 ↔ t.val % 16 < 8 :=
  (by decide +kernel : ∀ t : Fin grid0.N, k0_cond1 (grid0.coords t) = 1#1 ↔ t.val % 16 < 8)

/-- the second at the other eight. -/
theorem down_iff : ∀ t : Fin cfg0.N, k0_cond2 (grid0.coords t) = 1#1 ↔ 8 ≤ t.val % 16 :=
  (by decide +kernel : ∀ t : Fin grid0.N, k0_cond2 (grid0.coords t) = 1#1 ↔ 8 ≤ t.val % 16)

/-- The slice that step `s` of the block of rows `r` fills, and the step that fills slice `s`: forwards in the even blocks,
    backwards in the odd ones. -/
def turn (r s : ℕ) : ℕ := if r % 2 = 0 then s else 7 - s

/-- The offsets of a filling point's store. -/
theorem off_up : ∀ t : Fin cfg0.N, t.val % 16 < 8 → k0_off1 (grid0.coords t) = ![turn (t.val / 16) (t.val % 16), 0, 0] :=
  (by decide +kernel : ∀ t : Fin grid0.N, t.val % 16 < 8 → k0_off1 (grid0.coords t) = ![turn (t.val / 16) (t.val % 16), 0, 0])

/-- At a filling point the output is left alone, -/
theorem idle_up : ∀ t : Fin cfg0.N, t.val % 16 < 8 → cfg0.idle 4 (grid0.coords t) = true :=
  (by decide +kernel : ∀ t : Fin grid0.N, t.val % 16 < 8 → idle0 4 (grid0.coords t) = true)

/-- and not written back; -/
theorem flush_up : ∀ t : Fin cfg0.N, t.val % 16 < 8 → (cfg0.win 4).flush t = false :=
  (by decide +kernel : ∀ t : Fin grid0.N, t.val % 16 < 8 → win0_4.flush t = false)

/-- at the others it is stored. -/
theorem live_down : ∀ t : Fin cfg0.N, 8 ≤ t.val % 16 → cfg0.idle 4 (grid0.coords t) = false :=
  (by decide +kernel : ∀ t : Fin grid0.N, 8 ≤ t.val % 16 → idle0 4 (grid0.coords t) = false)

/-! ## The buffers -/

abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .f32 := win0_4.stage (cfg0.slots t 4)
abbrev hs0_4 (t : Fin cfg0.N) : (ms0_4 t).IsWhole := hstage0_4 ((cfg0.slots t 4).cast nbuf0_4)
abbrev scM0_0 : Memref sig .tc .vmem S8x1024x1024 .bf16 := Memref.whole cc0_scratch0
abbrev VO0_4 : View sig .tc .vmem S1024x256 .f32 := (Memref.whole cc0_stg4_0 : Memref sig .tc .vmem S1024x256 .f32).view

/-- The region's invariant, with the scratch owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body's two runs -/

set_option maxHeartbeats 1000000 in
/-- A FILLING point: the slice at the point's offsets is stored over the scratch as it was, everything else is handed back. -/
def upRun (c : Dev nD) (i : grid0.Coords) (arg2 : Memref sig .tc .vmem S1024x2048 .bf16) (harg2 : arg2.IsWhole) (arg3 : Memref sig .tc .vmem S1024x256 .f32) (harg3 : arg3.IsWhole) (arg4 : Memref sig .tc .vmem S1x2048x1024 .bf16) (harg4 : arg4.IsWhole) (arg5 : Memref sig .tc .vmem S1x8192x256 .bf16) (harg5 : arg5.IsWhole) (arg6 : Memref sig .tc .vmem S1024x256 .f32) (harg6 : arg6.IsWhole) (arg7 : Memref sig .tc .vmem S8x1024x1024 .bf16) (harg7 : arg7.IsWhole)
    (hu : k0_cond1 i = 1#1) (hd : ¬k0_cond2 i = 1#1)
    (x0 : Vec F S1024x2048 .bf16) (x1 : Vec F S1024x256 .f32) (x2 : Vec F S1x2048x1024 .bf16) (x3 : Vec F S1x8192x256 .bf16) (x4 : Vec F S1024x256 .f32) (xs : Vec F S8x1024x1024 .bf16) :
    { L : List (View.Piece (Elt F) S8x1024x1024 .bf16) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ arg7.view.loc (c : Thread nD τ) ↦[arg7.view.set]{fullShare} arg7.view.writes (Elt F) (harg7.unread xs) L) -∗ K ⟨⟩))
          ⊢ wp frame (wpE (defs₀ (F := F)) Variants.none c none) E (cc0_wrapped i arg2 harg2 arg3 harg3 arg4 harg4 arg5 harg5 arg6 harg6 arg7 harg7) K } := by
  refine ⟨?_, fun E K => ?run⟩
  case run =>
    simp only [cc0_wrapped_eq_skeleton]; unfold cc0_wrapped_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | sl_exact hu | sl_exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexact HS

set_option maxHeartbeats 1000000 in
/-- A READING point: the output's block is stored, from the scratch as it is, everything else is handed back. -/
def downRun (c : Dev nD) (i : grid0.Coords) (arg2 : Memref sig .tc .vmem S1024x2048 .bf16) (harg2 : arg2.IsWhole) (arg3 : Memref sig .tc .vmem S1024x256 .f32) (harg3 : arg3.IsWhole) (arg4 : Memref sig .tc .vmem S1x2048x1024 .bf16) (harg4 : arg4.IsWhole) (arg5 : Memref sig .tc .vmem S1x8192x256 .bf16) (harg5 : arg5.IsWhole) (arg6 : Memref sig .tc .vmem S1024x256 .f32) (harg6 : arg6.IsWhole) (arg7 : Memref sig .tc .vmem S8x1024x1024 .bf16) (harg7 : arg7.IsWhole)
    (hu : ¬k0_cond1 i = 1#1) (hd : k0_cond2 i = 1#1)
    (x0 : Vec F S1024x2048 .bf16) (x1 : Vec F S1024x256 .f32) (x2 : Vec F S1x2048x1024 .bf16) (x3 : Vec F S1x8192x256 .bf16) (xs : Vec F S8x1024x1024 .bf16) :
    { L : List (View.Piece (Elt F) S1024x256 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L) ∗ owns (c : Thread nD τ) arg7 fullShare xs) -∗ K ⟨⟩))
          ⊢ wp frame (wpE (defs₀ (F := F)) Variants.none c none) E (cc0_wrapped i arg2 harg2 arg3 harg3 arg4 harg4 arg5 harg5 arg6 harg6 arg7 harg7) K } := by
  refine ⟨?_, fun E K => ?run⟩
  case run =>
    simp only [cc0_wrapped_eq_skeleton]; unfold cc0_wrapped_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | sl_exact hu | sl_exact hd)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

/-- The slice that a filling point stores, as one piece. -/
theorem upRun_eq (c : Dev nD) (i : grid0.Coords) (arg2 : Memref sig .tc .vmem S1024x2048 .bf16) (harg2 : arg2.IsWhole) (arg3 : Memref sig .tc .vmem S1024x256 .f32) (harg3 : arg3.IsWhole) (arg4 : Memref sig .tc .vmem S1x2048x1024 .bf16) (harg4 : arg4.IsWhole) (arg5 : Memref sig .tc .vmem S1x8192x256 .bf16) (harg5 : arg5.IsWhole) (arg6 : Memref sig .tc .vmem S1024x256 .f32) (harg6 : arg6.IsWhole) (arg7 : Memref sig .tc .vmem S8x1024x1024 .bf16) (harg7 : arg7.IsWhole)
    (hu : k0_cond1 i = 1#1) (hd : ¬k0_cond2 i = 1#1)
    (x0 : Vec F S1024x2048 .bf16) (x1 : Vec F S1024x256 .f32) (x2 : Vec F S1x2048x1024 .bf16) (x3 : Vec F S1x8192x256 .bf16) (x4 : Vec F S1024x256 .f32) (xs : Vec F S8x1024x1024 .bf16) :
    (upRun c i arg2 harg2 arg3 harg3 arg4 harg4 arg5 harg5 arg6 harg6 arg7 harg7 hu hd x0 x1 x2 x3 x4 xs).1
      = [⟨Rect.unit (s := S8x1024x1024) (k0_off1 i) S1x1024x1024.size (k0_off1_inb i hu), k0_pay1 x0 x2⟩] := by
  unfold upRun
  simp (disch := decide) only [View.readAt_eq_ld, Memref.IsWhole.read_unread, View.ld_unit_lit']

/-- The piece that a reading point stores covers the output's block. -/
theorem downRun_cover (c : Dev nD) (i : grid0.Coords) (arg2 : Memref sig .tc .vmem S1024x2048 .bf16) (harg2 : arg2.IsWhole) (arg3 : Memref sig .tc .vmem S1024x256 .f32) (harg3 : arg3.IsWhole) (arg4 : Memref sig .tc .vmem S1x2048x1024 .bf16) (harg4 : arg4.IsWhole) (arg5 : Memref sig .tc .vmem S1x8192x256 .bf16) (harg5 : arg5.IsWhole) (arg6 : Memref sig .tc .vmem S1024x256 .f32) (harg6 : arg6.IsWhole) (arg7 : Memref sig .tc .vmem S8x1024x1024 .bf16) (harg7 : arg7.IsWhole)
    (hu : ¬k0_cond1 i = 1#1) (hd : k0_cond2 i = 1#1)
    (x0 : Vec F S1024x2048 .bf16) (x1 : Vec F S1024x256 .f32) (x2 : Vec F S1x2048x1024 .bf16) (x3 : Vec F S1x8192x256 .bf16) (xs : Vec F S8x1024x1024 .bf16) (y : S1024x256.Idx) :
    ∃ p ∈ (downRun c i arg2 harg2 arg3 harg3 arg4 harg4 arg5 harg5 arg6 harg6 arg7 harg7 hu hd x0 x1 x2 x3 xs).1, y ∈ p.1.set :=
  View.cover_of_tiledL (downRun c i arg2 harg2 arg3 harg3 arg4 harg4 arg5 harg5 arg6 harg6 arg7 harg7 hu hd x0 x1 x2 x3 xs).1 S1024x256.size (by sl_kernel_rfl) y

/-! ## What the scratch holds -/

theorem turn_turn {r s : ℕ} (h : s < 8) : turn r (turn r s) = s := by
  unfold turn; split <;> omega

theorem turn_lt {r s : ℕ} (h : s < 8) : turn r s < 8 := by
  unfold turn; split <;> omega

/-- The filling point of slice `j` in the block of rows `r`. -/
def pt (r j : ℕ) : Fin cfg0.N := ⟨(16 * r + turn r j) % 128, lt_of_lt_of_eq (Nat.mod_lt _ (by decide)) (show cfg0.N = 128 from N_0).symm⟩

/-- An index of the scratch as an index of its slice. -/
def inSlice (y : S8x1024x1024.Idx) : S1x1024x1024.Idx := fun a => match a with
  | ⟨0, _⟩ => (⟨0, Nat.one_pos⟩ : Fin 1)
  | ⟨1, _⟩ => (⟨(y 1).val, (y 1).isLt⟩ : Fin 1024)
  | ⟨2, _⟩ => (⟨(y 2).val, (y 2).isLt⟩ : Fin 1024)

/-- The hidden layer of the block of rows `r`: each slice what its filling point computes. -/
def hid (c : Dev nD) (r : ℕ) : Vec F S8x1024x1024 .bf16 := fun y =>
  k0_pay1 (iblk m c 0 (pt r (y 0).val)) (iblk m c 2 (pt r (y 0).val)) (inSlice y)

/-- Before point `n` the slices filled so far in its block of rows hold the hidden layer. -/
def Filled (c : Dev nD) (n : ℕ) (d : Vec F S8x1024x1024 .bf16) : Prop :=
  ∀ y : S8x1024x1024.Idx, turn (n / 16) (y 0).val < n % 16 → d y = hid m c (n / 16) y

theorem filled_zero (c : Dev nD) (d : Vec F S8x1024x1024 .bf16) : Filled m c 0 d := fun _ h => absurd h (Nat.not_lt_zero _)

/-- A reading point changes nothing. -/
theorem filled_down (c : Dev nD) (n : ℕ) (h : 8 ≤ n % 16) (d : Vec F S8x1024x1024 .bf16) (hf : Filled m c n d) : Filled m c (n + 1) d := by
  intro y hy
  have hy0 : (y 0).val < 8 := (y 0).isLt
  have e : (n + 1) / 16 = n / 16 := by omega
  rw [e] at hy ⊢
  exact hf y (lt_of_lt_of_le (turn_lt hy0) h)

/-- At a reading point the whole hidden layer is there. -/
theorem eq_hid (c : Dev nD) (n : ℕ) (h : 8 ≤ n % 16) (d : Vec F S8x1024x1024 .bf16) (hf : Filled m c n d) : d = hid m c (n / 16) :=
  funext fun y => hf y (lt_of_lt_of_le (turn_lt (y 0).isLt) h)

/-- One stored piece, read inside it. -/
theorem read_piece (M : Memref sig .tc .vmem S8x1024x1024 .bf16) (f) (R : Rect S8x1024x1024) (w : R.shape.Idx → Elt F .bf16)
    (y : S8x1024x1024.Idx) (x : R.shape.Idx) (e : y = R.emb x) : M.view.read (Elt F) (M.view.writes (Elt F) f [⟨R, w⟩]) y = w x := by
  rw [e]; exact View.read_writes_cons_emb _ _ _ _ _ x

/-- A filling point adds its slice. -/
theorem filled_up (c : Dev nD) (t : Fin cfg0.N) (h : t.val % 16 < 8) (hu : k0_cond1 (grid0.coords t) = 1#1) (d : Vec F S8x1024x1024 .bf16) (hf : Filled m c t.val d)
    (M : Memref sig .tc .vmem S8x1024x1024 .bf16) (hM : M.IsWhole) :
    Filled m c (t.val + 1) (M.view.read (Elt F) (M.view.writes (Elt F) (hM.unread d)
      [⟨Rect.unit (s := S8x1024x1024) (k0_off1 (grid0.coords t)) S1x1024x1024.size (k0_off1_inb (grid0.coords t) hu), k0_pay1 (iblk m c 0 t) (iblk m c 2 t)⟩])) := by
  intro y hy
  have hy0 : (y 0).val < 8 := (y 0).isLt
  have hN : t.val < 128 := lt_of_lt_of_eq t.isLt (show cfg0.N = 128 from N_0)
  have e : (t.val + 1) / 16 = t.val / 16 := by omega
  have e' : (t.val + 1) % 16 = t.val % 16 + 1 := by omega
  rw [e, e'] at hy
  rw [e]
  have o := off_up t h
  by_cases hs : turn (t.val / 16) (y 0).val = t.val % 16
  · have ey : y = (Rect.unit (s := S8x1024x1024) (k0_off1 (grid0.coords t)) S1x1024x1024.size (k0_off1_inb (grid0.coords t) hu)).emb (inSlice y) := by
      have h0 : (y 0).val = turn (t.val / 16) (t.val % 16) := by rw [← hs, turn_turn hy0]
      refine Shape.idx3_ext ?_ ?_ ?_
      · show (y 0).val = k0_off1 (grid0.coords t) 0 + 1 * 0
        rw [o, h0]; rfl
      · show (y 1).val = k0_off1 (grid0.coords t) 1 + 1 * (y 1).val
        rw [o]; show (y 1).val = 0 + 1 * (y 1).val; omega
      · show (y 2).val = k0_off1 (grid0.coords t) 2 + 1 * (y 2).val
        rw [o]; show (y 2).val = 0 + 1 * (y 2).val; omega
    have ep : pt (t.val / 16) (y 0).val = t := Fin.ext (by show (16 * (t.val / 16) + turn (t.val / 16) (y 0).val) % 128 = t.val; rw [hs]; omega)
    refine (read_piece M _ _ _ y (inSlice y) ey).trans ?_
    unfold hid; rw [ep]
  · refine (View.read_writes_apply_of_forall_not_mem _ _ y _ ?_).trans ((congrFun (hM.read_unread d) y).trans (hf y (by omega)))
    intro p hp hm
    obtain rfl := List.mem_singleton.mp hp
    obtain ⟨j, hj⟩ := (Rect.unit (s := S8x1024x1024) (k0_off1 (grid0.coords t)) S1x1024x1024.size (k0_off1_inb (grid0.coords t) hu)).exists_idx_of_mem hm
    have h0 := congrArg (fun u : S8x1024x1024.Idx => (u 0).val) hj
    have hj0 : (j 0).val = 0 := Nat.lt_one_iff.mp (j 0).isLt
    have h1 : (y 0).val = turn (t.val / 16) (t.val % 16) := by
      refine h0.symm.trans ?_
      show k0_off1 (grid0.coords t) 0 + 1 * (j 0).val = _
      exact (congrArg₂ (fun a b => a + 1 * b) (congrFun o 0) hj0)
    exact hs (by rw [h1, turn_turn h])

/-! ## The pipeline's proof data -/

/-- The invariant before point `n`. -/
def PhiN (c : Dev nD) (n : ℕ) : sProp 𝕄 :=
  iprop((∃ d, ⌜Filled m c n d⌝ ∗ owns (c : Thread nD τ) scM0_0 fullShare d) ∗ (∃ r, prngReg c r))

/-- What a point leaves in the output's buffer: at a reading point what it stores. -/
def outAt (c : Dev nD) (t : Fin cfg0.N) : Vec F S1024x256 .f32 :=
  if h : 8 ≤ t.val % 16 then
    VO0_4.read (Elt F) (VO0_4.writes (Elt F) VO0_4.junk (downRun c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun e => absurd ((up_iff t).mp e) (Nat.not_lt.mpr h)) ((down_iff t).mpr h) (iblk m c 0 t) (iblk m c 1 t) (iblk m c 2 t) (iblk m c 3 t) (hid m c (t.val / 16))).1)
  else VO0_4.read (Elt F) VO0_4.junk

/-- The proof data: the inputs' buffers keep their blocks, the output's holds `outAt`, the scratch is filled slice by slice. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiN m c t.val
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = PhiN m c t.val := by
  dsimp only [dats]; exact Pipeline.Dat.Φ_castSucc (fun n _ => PhiN m c n) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  rw [← after0_0]
theorem leaves_in1 (c : Dev nD) (t : Fin cfg0.N) : (dats m 0 c).leavesExact 1 t = owns (c : Thread nD τ) (ms0_1 t) fullShare (iblk m c 1 t) := by
  rw [← after0_1]
theorem leaves_in2 (c : Dev nD) (t : Fin cfg0.N) : (dats m 0 c).leavesExact 2 t = owns (c : Thread nD τ) (ms0_2 t) fullShare (iblk m c 2 t) := by
  rw [← after0_2]
theorem leaves_in3 (c : Dev nD) (t : Fin cfg0.N) : (dats m 0 c).leavesExact 3 t = owns (c : Thread nD τ) (ms0_3 t) fullShare (iblk m c 3 t) := by
  rw [← after0_3]
theorem leaves_out (c : Dev nD) (t : Fin cfg0.N) (h : 8 ≤ t.val % 16) :
    (dats m 0 c).leavesExact 4 t = owns (c : Thread nD τ) (ms0_4 t) fullShare (outAt m c t) := by
  rw [← after0_4]; unfold Dat.leavesExact; rw [live_down t h]

set_option maxHeartbeats 3200000 in
/-- The body at any point: the run of its kind, the invariant moved one point on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl, leaves_in0, leaves_in1, leaves_in2, leaves_in3,
    show (dats m 0 c).Φ t.succ = PhiN m c (t.val + 1) from rfl, Phi_castSucc]
  unfold PhiN
  by_cases h : t.val % 16 < 8
  · have hu := (up_iff t).mpr h
    have hd : ¬k0_cond2 (grid0.coords t) = 1#1 := fun e => absurd ((down_iff t).mp e) (Nat.not_le.mpr h)
    rw [Dat.leavesExact_idle _ 4 t (idle_up t h) (flush_up t h)]
    iintro ⟨⟨⟨%ds, %hf, HS⟩, Hg⟩, Ho, ⟨%d0, H0⟩, ⟨%d1, H1⟩, ⟨%d2, H2⟩, ⟨%d3, H3⟩, ⟨%d4, H4⟩⟩
    iapply ((upRun c (grid0.coords t) (ms0_0 t) (hs0_0 t) (ms0_1 t) (hs0_1 t) (ms0_2 t) (hs0_2 t) (ms0_3 t) (hs0_3 t) (ms0_4 t) (hs0_4 t) scM0_0 (Memref.isWhole_whole _) hu hd (iblk m c 0 t) (iblk m c 1 t) (iblk m c 2 t) (iblk m c 3 t) ((dats m 0 c).before 4 t d4) ds).2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists _
        isplitr
        swap
        · unfold owns; iexists _; isplitr
          swap; · iexact HS
          ipureintro; rfl
        ipureintro
        rw [upRun_eq]
        exact filled_up m c t h hu ds hf scM0_0 (Memref.isWhole_whole _)
      iexact Hg
    isplitl [Ho]; · iexact Ho
    isplitl [H0]; · iexact H0
    isplitl [H1]; · iexact H1
    isplitl [H2]; · iexact H2
    isplitl [H3]; · iexact H3
    iexists d4; iexact H4
  · have h' : 8 ≤ t.val % 16 := Nat.not_lt.mp h
    rw [leaves_out m c t h']
    unfold outAt
    rw [dif_pos h']
    iintro ⟨⟨⟨%ds, %hf, HS⟩, Hg⟩, Ho, ⟨%d0, H0⟩, ⟨%d1, H1⟩, ⟨%d2, H2⟩, ⟨%d3, H3⟩, ⟨%d4, H4⟩⟩
    obtain rfl := eq_hid m c t.val h' ds hf
    iapply ((downRun c (grid0.coords t) (ms0_0 t) (hs0_0 t) (ms0_1 t) (hs0_1 t) (ms0_2 t) (hs0_2 t) (ms0_3 t) (hs0_3 t) (ms0_4 t) (hs0_4 t) scM0_0 (Memref.isWhole_whole _) (fun e => absurd ((up_iff t).mp e) (Nat.not_lt.mpr h')) ((down_iff t).mpr h') (iblk m c 0 t) (iblk m c 1 t) (iblk m c 2 t) (iblk m c 3 t) (hid m c (t.val / 16))).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, HS⟩
    isplitl [HS Hg]
    · isplitl [HS]
      · iexists _
        isplitr
        swap
        · iexact HS
        ipureintro
        exact filled_down m c t.val h' _ hf
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (downRun_cover c _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is filled, -/
theorem hin (c : Dev nD) : Pipeline.ΦA spec0 c ⊢ (dats m 0 c).Φ 0 := by
  rw [show (dats m 0 c).Φ 0 = PhiN m c 0 from rfl, PhiA0_eq]
  unfold PhiN
  iintro ⟨⟨%d, HS⟩, Hg⟩
  isplitl [HS]
  · iexists d
    isplitr
    · ipureintro; exact filled_zero m c d
    iexact HS
  iexact Hg

/-- and after the last what the scratch holds is forgotten. -/
theorem hout (c : Dev nD) : (dats m 0 c).Φ (Fin.last cfg0.N) ⊢ Pipeline.ΦA spec0 c := by
  rw [show (dats m 0 c).Φ (Fin.last cfg0.N) = PhiN m c (Fin.last cfg0.N).val from rfl, PhiA0_eq]
  unfold PhiN
  iintro ⟨⟨%d, %hd, HS⟩, Hg⟩
  isplitl [HS]
  · iexists d; iexact HS
  iexact Hg

/-! ## The run and the frame -/

set_option backward.isDefEq.respectTransparency.types false in
/-- The launch: every array ends as the proof data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.MlpIdeal.Gen

end
-- ==== Proof.Mlp.lean ====
/- The squared-ReLU MLP: the array the kernel leaves is the reference's, index by index. -/
module

public import proofs.«01_k».proof.Defs
public import proofs.«01_k».proof.Proof.MlpIdealFrame
public import proofs.«01_k».proof.Proof.Gen.MlpReferenceIdeal.Run
public import proofs.«01_k».proof.Proof.Gen.MlpReferenceIdeal.Read
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

namespace Cert.MlpProof

open Cert.MlpIdeal Cert.MlpIdeal.Gen Idealize.ShloMosaic Idealize.ShloMosaic.TcCoe Idealize.SL.Sem
open Cert.MlpReferenceIdeal.Read

variable (m : (ℓ : Loc nD τ sig) → Buf (Elt Ideal) ℓ) (ρ : Dev nD → PrngReg)

/-- The column block of the output at a reading point. -/
def col (n : ℕ) : ℕ := turn (n / 16) (n % 16 - 8)

/-- The block of each window at each grid point. -/
theorem idx : ∀ t : Fin cfg0.N, win0_0.index t = ![t.val / 16, 0] ∧ win0_4.index t = ![t.val / 16, col t.val]
    ∧ win0_1.index t = ![t.val / 16, col t.val] ∧ (t.val % 16 < 8 → win0_2.index t = ![0, 0, turn (t.val / 16) (t.val % 16)])
    ∧ win0_3.index t = ![0, 0, col t.val] := by
  decide +kernel

/-- The hidden layer in the scratch is the reference's. -/
theorem hid_eq (c : Dev nD) (r : Fin 8) (j : Fin 8) (p q : Fin 1024) :
    hid m c r.val (ix3 j p q) = val_main_v7 (F := Ideal) (m ((c : Thread nD τ).loc main_arg1)) (m ((c : Thread nD τ).loc main_arg2))
      (ix2 (⟨r.val * 1024 + p.val, by omega⟩ : Fin 8192) (⟨j.val * 1024 + q.val, by omega⟩ : Fin 8192)) := by
  have hr := r.isLt
  have hj := j.isLt
  have ht := turn_lt (r := r.val) hj
  have hp : (pt r.val j.val).val = 16 * r.val + turn r.val j.val := Nat.mod_eq_of_lt (by omega)
  obtain ⟨e0, -, -, e2, -⟩ := idx (pt r.val j.val)
  have hq : (16 * r.val + turn r.val j.val) / 16 = r.val := by omega
  have hm : (16 * r.val + turn r.val j.val) % 16 = turn r.val j.val := by omega
  rw [hp, hq, hm] at e2; rw [hp, hq] at e0
  replace e2 := e2 ht
  rw [turn_turn hj] at e2
  have es : inSlice (ix3 j p q) = ix3 (0 : Fin 1) p q := Shape.idx3_ext rfl rfl rfl
  show k0_pay1 (iblk m c 0 (pt r.val j.val)) (iblk m c 2 (pt r.val j.val)) (inSlice (ix3 j p q)) = _
  rw [es]
  generalize pt r.val j.val = t at e0 e2 ⊢
  pointwise [k0_pay1, val_main_v0, val_main_v1, val_main_v2, val_main_v5, val_main_call0_cst, val_main_call0_v0, val_main_v6, val_main_v7]
  blk_point [iblk, V, e0, e2]

/-- The output is written back at the reading points only. -/
theorem flush_down : ∀ t : Fin cfg0.N, (cfg0.win 4).flush t = true → 8 ≤ t.val % 16 := by decide +kernel

/-- The result after the run is the reference's `main_v9`. -/
theorem arr4 (c : Dev nD) : (dats m 0 c).arrAt 4 cfg0.N
    = val_main_v9 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have ht := flush_down t hf
  have hN : t.val < 128 := lt_of_lt_of_eq t.isLt (show cfg0.N = 128 from N_0)
  obtain ⟨-, e4, e1, -, e3⟩ := idx t
  blk_simp
  rw [after0_4]
  unfold outAt
  rw [dif_pos ht]
  unfold downRun
  frame_out
  have hr : t.val / 16 < 8 := by omega
  have hh := hid_eq m c ⟨t.val / 16, hr⟩
  generalize hid m c (t.val / 16) = H at hh ⊢
  generalize t.val / 16 = r at *
  idx_vars y
  simp only [read_unread_whole]
  pointwise [k0_pay2, k0_pay3, k0_pay4, val_main_v3, val_main_v4, val_main_v8, val_main_v9]
  rw [Fin.sum_univ_tiles 8 1024 rfl, Fin.sum_univ_eight]
  simp only [hh, ← add_assoc]
  blk_point [iblk, V, e1, e3, e4]

/-- The kernel and the reference end with equal results from equal arguments. -/
theorem algebraic : Cert.algebraic_MlpIdeal_MlpReferenceIdeal := by
  intro m ρ m' ρ' _ hagree
  refine ⟨fun c => val_main_v9 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · exact (θ_run Cert.MlpIdeal.defs _ _).mono (fun r h c => ⟨((h.1 c).1 4).trans (arr4 m c), h.2 c⟩)
      (θ_run_and (run_main m ρ) (frame_of m ρ (dats m) (A_eq m) (run_main m ρ)))
  · refine (θ_run Cert.MlpReferenceIdeal.defs _ _).mono (fun _ h c => ?_) (Cert.MlpReferenceIdeal.Value.run (F := Ideal) m' ρ')
    obtain ⟨h0, h1, h2, h3⟩ := hagree c
    exact ⟨(h c).1.trans ((val_main_v9_eq _ _ _ _).trans (by rw [h0, h1, h2, h3])), (h c).2⟩

end Cert.MlpProof

end
-- ==== Proof.Qkv.lean ====
/- The query, key and value projection: the array the kernel leaves is the reference's, index by index. -/
module

public import proofs.«01_k».proof.Defs
public import proofs.«01_k».proof.Proof.Gen.QkvIdeal.Value
public import proofs.«01_k».proof.Proof.Gen.QkvReferenceIdeal.Read
public import proofs.«01_k».proof.Proof.Consts
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

namespace Cert.QkvProof

open Cert.QkvIdeal Cert.QkvIdeal.Gen Idealize.ShloMosaic Idealize.ShloMosaic.TcCoe Idealize.SL.Sem
open Cert.QkvReferenceIdeal.Read

variable (m : (ℓ : Loc nD τ sig) → Buf (Elt Ideal) ℓ) (ρ : Dev nD → PrngReg)

/-- The column block of a grid point. -/
def col (t : Fin cfg0.N) : Nat := if t.val / 3 % 2 = 0 then t.val % 3 else 3 - 1 - t.val % 3

/-- There are three column blocks. -/
theorem col_lt (t : Fin cfg0.N) : col t < 3 := by unfold col; split <;> omega

/-- The block of each window at each grid point: the column blocks are walked forth and back. -/
theorem idx : ∀ t : Fin cfg0.N, win0_0.index t = ![t.val / 3, 0] ∧ win0_1.index t = ![0, 0] ∧ win0_2.index t = ![0, 0, col t] ∧ win0_3.index t = ![t.val / 3, col t] := by
  decide +kernel

/-- The test for the scaled column block. -/
theorem scaled : ∀ t : Fin cfg0.N, (Scalar.cmpi .slt
      (Scalar.select
        (Scalar.cmpi .eq
          (Scalar.select
            (Scalar.andi
              (Scalar.xori
                (Scalar.cmpi .slt
                  (Scalar.remsi (BitVec.ofNat 32 ↑(grid0.coords t 0)) (Scalar.select (Scalar.cmpi .eq 2#32 0#32) 1#32 2#32)) 0#32)
                (Scalar.cmpi .slt (Scalar.select (Scalar.cmpi .eq 2#32 0#32) 1#32 2#32) 0#32))
              (Scalar.cmpi .ne
                (Scalar.remsi (BitVec.ofNat 32 ↑(grid0.coords t 0)) (Scalar.select (Scalar.cmpi .eq 2#32 0#32) 1#32 2#32)) 0#32))
            (Scalar.addi
              (Scalar.remsi (BitVec.ofNat 32 ↑(grid0.coords t 0)) (Scalar.select (Scalar.cmpi .eq 2#32 0#32) 1#32 2#32))
              (Scalar.select (Scalar.cmpi .eq 2#32 0#32) 1#32 2#32))
            (Scalar.remsi (BitVec.ofNat 32 ↑(grid0.coords t 0)) (Scalar.select (Scalar.cmpi .eq 2#32 0#32) 1#32 2#32)))
          0#32)
        (BitVec.ofNat 32 ↑(grid0.coords t 1)) (Scalar.subi 2#32 (BitVec.ofNat 32 ↑(grid0.coords t 1))))
      1#32) = BitVec.ofBool (decide (col t = 0)) := by
  decide +kernel

/-- The named factor. -/
theorem attn : Named.named (F := Ideal) Cert.QkvIdeal.κ "attn" (φ := .f32) 0x3E0293EE#32
    = (((Real.log 2)⁻¹ * (Real.sqrt 128)⁻¹ : ℝ) : EReal) :=
  IdealRules.named_const.ideal_named_scalar _ _ _ _ rfl

/-- The quotient that the reference takes is the named factor. -/
theorem scale_eq : Ideal.div 1 (Ideal.log ((2 : ℝ) : EReal) * Ideal.sqrt ((128 : ℝ) : EReal))
    = (((Real.log 2)⁻¹ * (Real.sqrt 128)⁻¹ : ℝ) : EReal) := by
  have h2 : Real.log 2 ≠ 0 := (Real.log_pos (by norm_num)).ne'
  have h128 : Real.sqrt 128 ≠ 0 := (Real.sqrt_pos.mpr (by norm_num)).ne'
  rw [Ideal.log_coe, Ideal.sqrt_coe, if_neg (by norm_num), if_neg (by norm_num), ← EReal.coe_mul,
    Ideal.div_coe (mul_ne_zero h2 h128), one_mul, one_div, mul_inv]

/-- Selecting by a decided test. -/
theorem select_ofBool {α : Type} (p : Prop) [Decidable p] (a b : α) :
    Scalar.select (BitVec.ofBool (decide p)) a b = if p then a else b := by
  by_cases h : p <;> simp [h, Scalar.select]

/-- The normalised rows are written at the first point of each row block and held through its run. -/
theorem held (c : Dev nD) (t : Fin cfg0.N) :
    (outsAt0 m c t.val t.isLt).2
      = k0_pay1 (iblk m c 0 ⟨3 * (t.val / 3), Pipeline.run_start_lt t⟩) (iblk m c 1 ⟨3 * (t.val / 3), Pipeline.run_start_lt t⟩) := by
  refine Pipeline.eq_of_write_hold (fun n h => (outsAt0 m c n h).2) 3 (fun t => k0_pay1 (iblk m c 0 t) (iblk m c 1 t))
    (fun t h => ?_) (fun t h => ?_) t
  · rw [outsAt0_A m c t h]
    frame_out
  · rw [outsAt0_B m c t h]
    rfl

/-- What a point writes back, over the rows normalised at the first point of its run. -/
theorem out (c : Dev nD) (t : Fin cfg0.N) :
    (outsAt0 m c t.val t.isLt).1
      = k0_pay2 (grid0.coords t) (k0_pay1 (iblk m c 0 ⟨3 * (t.val / 3), Pipeline.run_start_lt t⟩) (iblk m c 1 ⟨3 * (t.val / 3), Pipeline.run_start_lt t⟩))
          (iblk m c 2 t) := by
  by_cases h : t.val % 3 = 0
  · have e : (⟨3 * (t.val / 3), Pipeline.run_start_lt t⟩ : Fin cfg0.N) = t := Fin.ext (by show 3 * (t.val / 3) = t.val; omega)
    rw [e, outsAt0_A m c t h]
    frame_open
    simp (disch := decide) only [↓ View.readCov_skip, ↓ View.readCov_cons_toLoadRect, ↓ View.readCov_fill]
    frame_out
  · have ht := t.isLt
    have e := held m c ⟨t.val - 1, by omega⟩
    have e' : (⟨3 * ((t.val - 1) / 3), Pipeline.run_start_lt ⟨t.val - 1, by omega⟩⟩ : Fin cfg0.N) = ⟨3 * (t.val / 3), Pipeline.run_start_lt t⟩ :=
      Fin.ext (by show 3 * ((t.val - 1) / 3) = 3 * (t.val / 3); omega)
    rw [outsAt0_B m c t h]
    frame_out
    rw [e]
    rw [read_unread_whole]
    exact congrArg (fun u => k0_pay2 (grid0.coords t) (k0_pay1 (iblk m c 0 u) (iblk m c 1 u)) (iblk m c 2 t)) e'

/-- The result after the run is the reference's `main_v26`. -/
theorem arr3 (c : Dev nD) : (dats m 0 c).arrAt 3 cfg0.N
    = val_main_v26 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out]
  obtain ⟨e0, e1, e2, e3⟩ := idx t
  obtain ⟨f0, f1, -, -⟩ := idx ⟨3 * (t.val / 3), Pipeline.run_start_lt t⟩
  have hd : 3 * (t.val / 3) / 3 = t.val / 3 := by omega
  simp only [hd] at f0
  idx_vars y
  pointwise [k0_pay1, k0_pay2, val_main_v0, val_main_cst, val_main_v1, val_main_v2, val_main_cst_0, val_main_v3,
    val_main_v4, val_main_cst_1, val_main_v5, val_main_v6, val_main_v7, val_main_v8, val_main_v9,
    val_main_v10, val_main_v11, val_main_v12, val_main_v13, val_main_v14, val_main_v15, val_main_v16,
    val_main_v17, val_main_v18, val_main_cst_2, val_main_v19, val_main_cst_3, val_main_v20,
    val_main_v21, val_main_cst_4, val_main_v22, val_main_v23, val_main_v24, val_main_v25, val_main_v26]
  simp only [scaled]
  rw [attn, Cert.Consts.ofBits_2, Cert.Consts.ofBits_128]
  have hy := y1.isLt
  rw [select_ofBool]
  by_cases hc : col t = 0
  · rw [dif_pos (by blk_simp [e3]; omega), if_pos hc, scale_eq]
    blk_point [iblk, V, e0, e1, e2, e3, f0, f1]
  · have hl := col_lt t
    rw [dif_neg (by blk_simp [e3]; omega), if_neg hc, mul_one]
    split
    · rename_i h
      blk_simp [e3] at h
      blk_point [iblk, V, e0, e1, e2, e3, f0, f1]
    · rename_i h
      blk_simp [e3] at h
      blk_point [iblk, V, e0, e1, e2, e3, f0, f1]

/-- The kernel and the reference end with equal results from equal arguments. -/
theorem algebraic : Cert.algebraic_QkvIdeal_QkvReferenceIdeal := by
  intro m ρ m' ρ' _ hagree
  refine ⟨fun c => val_main_v26 (F := Ideal) (m ((c.tc : Thread nD τ).loc main_arg0)) (m ((c.tc : Thread nD τ).loc main_arg1)) (m ((c.tc : Thread nD τ).loc main_arg2)), ?_, ?_⟩
  · exact (θ_run Cert.QkvIdeal.defs _ _).mono (fun r h c => ⟨(h c).1.trans (arr3 m c), (h c).2⟩)
      (Cert.QkvIdeal.Value.run_blocks m ρ)
  · refine (θ_run Cert.QkvReferenceIdeal.defs _ _).mono (fun _ h c => ?_) (Cert.QkvReferenceIdeal.Value.run (F := Ideal) m' ρ')
    obtain ⟨h0, h1, h2⟩ := hagree c
    exact ⟨(h c).1.trans ((val_main_v26_eq _ _ _).trans (by rw [h0, h1, h2])), (h c).2⟩

end Cert.QkvProof

end
-- ==== Proof.Proj.lean ====
/- The input projection: the array the kernel leaves is the reference's, index by index. -/
module

public import proofs.«01_k».proof.Defs
public import proofs.«01_k».proof.Proof.Gen.ProjIdeal.Value
public import proofs.«01_k».proof.Proof.Gen.ProjReferenceIdeal.Read
public import Idealize.ShloMosaic.Lib.Pipeline.ValueKit
public import Idealize.ShloMosaic.Lib.Pipeline.ReadBack
public import Idealize.ShloMosaic.Lib.Pipeline.ValueKit.Held
public import Idealize.ShloMosaic.Lib.Pointwise

@[expose] public section

set_option maxRecDepth 16384

noncomputable section

namespace Cert.ProjProof

open Cert.ProjIdeal Cert.ProjIdeal.Gen Idealize.ShloMosaic Idealize.ShloMosaic.TcCoe Idealize.SL.Sem
open Cert.ProjReferenceIdeal.Read

variable (m : (ℓ : Loc nD τ sig) → Buf (Elt Ideal) ℓ) (ρ : Dev nD → PrngReg)

/-- The block of each window at each grid point: the column blocks are walked forth and back. -/
theorem idx : ∀ t : Fin cfg0.N, win0_0.index t = ![t.val / 4, 0] ∧ win0_1.index t = ![0, 0] ∧ win0_2.index t = ![0, 0, (if t.val / 4 % 2 = 0 then t.val % 4 else 4 - 1 - t.val % 4)] ∧ win0_3.index t = ![t.val / 4, (if t.val / 4 % 2 = 0 then t.val % 4 else 4 - 1 - t.val % 4)] := by
  decide +kernel

/-- The normalised rows are written at the first point of each row block and held through its run. -/
theorem held (c : Dev nD) (t : Fin cfg0.N) :
    (outsAt0 m c t.val t.isLt).2
      = k0_pay1 (iblk m c 0 ⟨4 * (t.val / 4), Pipeline.run_start_lt t⟩) (iblk m c 1 ⟨4 * (t.val / 4), Pipeline.run_start_lt t⟩) := by
  refine Pipeline.eq_of_write_hold (fun n h => (outsAt0 m c n h).2) 4 (fun t => k0_pay1 (iblk m c 0 t) (iblk m c 1 t))
    (fun t h => ?_) (fun t h => ?_) t
  · rw [outsAt0_A m c t h]
    frame_out
  · rw [outsAt0_B m c t h]
    rfl

/-- What a point writes back, over the rows normalised at the first point of its run. -/
theorem out (c : Dev nD) (t : Fin cfg0.N) :
    (outsAt0 m c t.val t.isLt).1
      = k0_pay2 (k0_pay1 (iblk m c 0 ⟨4 * (t.val / 4), Pipeline.run_start_lt t⟩) (iblk m c 1 ⟨4 * (t.val / 4), Pipeline.run_start_lt t⟩))
          (iblk m c 2 t) := by
  by_cases h : t.val % 4 = 0
  · have e : (⟨4 * (t.val / 4), Pipeline.run_start_lt t⟩ : Fin cfg0.N) = t := Fin.ext (by show 4 * (t.val / 4) = t.val; omega)
    rw [e, outsAt0_A m c t h]
    frame_open
    simp (disch := decide) only [↓ View.readCov_skip, ↓ View.readCov_cons_toLoadRect, ↓ View.readCov_fill]
    frame_out
  · have ht := t.isLt
    have e := held m c ⟨t.val - 1, by omega⟩
    have e' : (⟨4 * ((t.val - 1) / 4), Pipeline.run_start_lt ⟨t.val - 1, by omega⟩⟩ : Fin cfg0.N) = ⟨4 * (t.val / 4), Pipeline.run_start_lt t⟩ :=
      Fin.ext (by show 4 * ((t.val - 1) / 4) = 4 * (t.val / 4); omega)
    rw [outsAt0_B m c t h]
    frame_out
    rw [e]
    rw [read_unread_whole]
    exact congrArg (fun u => k0_pay2 (k0_pay1 (iblk m c 0 u) (iblk m c 1 u)) (iblk m c 2 t)) e'

/-- The result after the run is the reference's `main_v15`. -/
theorem arr3 (c : Dev nD) : (dats m 0 c).arrAt 3 cfg0.N
    = val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out]
  obtain ⟨e0, e1, e2, e3⟩ := idx t
  obtain ⟨f0, f1, -, -⟩ := idx ⟨4 * (t.val / 4), Pipeline.run_start_lt t⟩
  have hd : 4 * (t.val / 4) / 4 = t.val / 4 := by omega
  simp only [hd] at f0
  idx_vars y
  pointwise [k0_pay1, k0_pay2, val_main_v0, val_main_cst, val_main_v1, val_main_v2, val_main_cst_0, val_main_v3,
    val_main_v4, val_main_cst_1, val_main_v5, val_main_v6, val_main_v7, val_main_v8, val_main_v9,
    val_main_v10, val_main_v11, val_main_v12, val_main_v13, val_main_v14, val_main_v15]
  blk_point [iblk, V, e0, e1, e2, e3, f0, f1]

/-- The kernel and the reference end with equal results from equal arguments. -/
theorem algebraic : Cert.algebraic_ProjIdeal_ProjReferenceIdeal := by
  intro m ρ m' ρ' _ hagree
  refine ⟨fun c => val_main_v15 (F := Ideal) (m ((c.tc : Thread nD τ).loc main_arg0)) (m ((c.tc : Thread nD τ).loc main_arg1)) (m ((c.tc : Thread nD τ).loc main_arg2)), ?_, ?_⟩
  · exact (θ_run Cert.ProjIdeal.defs _ _).mono (fun r h c => ⟨(h c).1.trans (arr3 m c), (h c).2⟩)
      (Cert.ProjIdeal.Value.run_blocks m ρ)
  · refine (θ_run Cert.ProjReferenceIdeal.defs _ _).mono (fun _ h c => ?_) (Cert.ProjReferenceIdeal.Value.run (F := Ideal) m' ρ')
    obtain ⟨h0, h1, h2⟩ := hagree c
    exact ⟨(h c).1.trans ((val_main_v15_eq _ _ _).trans (by rw [h0, h1, h2])), (h c).2⟩

end Cert.ProjProof

end
-- ==== Proof.Out.lean ====
/- The output projection with its residual: both arrays the kernel leaves are the reference's, index by index. -/
module

public import proofs.«01_k».proof.Defs
public import proofs.«01_k».proof.Proof.Gen.OutIdeal.Value
public import proofs.«01_k».proof.Proof.Gen.OutReferenceIdeal.Read
public import Idealize.ShloMosaic.Lib.Pipeline.ValueKit
public import Idealize.ShloMosaic.Lib.Pointwise

@[expose] public section

set_option maxRecDepth 16384

noncomputable section

namespace Cert.OutProof

open Cert.OutIdeal Cert.OutIdeal.Gen Idealize.ShloMosaic Idealize.ShloMosaic.TcCoe Idealize.SL.Sem
open Cert.OutReferenceIdeal.Read

variable (m : (ℓ : Loc nD τ sig) → Buf (Elt Ideal) ℓ) (ρ : Dev nD → PrngReg)

/-- The block of each window at each grid point. -/
theorem idx : ∀ t : Fin cfg0.N, win0_0.index t = ![t.val, 0] ∧ win0_1.index t = ![0, 0, 0] ∧ win0_2.index t = ![t.val, 0] ∧ win0_3.index t = ![0, 0] ∧ win0_4.index t = ![t.val, 0] ∧ win0_5.index t = ![t.val, 0] := by
  decide +kernel

/-- Output 4 after the run is the reference's `main_v4`. -/
theorem arr4 (c : Dev nD) : (dats m 0 c).arrAt 4 cfg0.N
    = val_main_v4 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  obtain ⟨e0, e1, e2, e3, e4, e5⟩ := idx t
  idx_vars y
  pointwise [k0_pay1, k0_pay2, val_main_v0, val_main_v1, val_main_v2, val_main_v3, val_main_v4, val_main_v5,
    val_main_cst, val_main_v6, val_main_v7, val_main_cst_0, val_main_v8, val_main_v9, val_main_cst_1,
    val_main_v10, val_main_v11, val_main_v12, val_main_v13, val_main_v14, val_main_v15, val_main_v16,
    val_main_v17, val_main_v18]
  blk_point [iblk, V, e0, e1, e2, e3, e4, e5]

/-- Output 5 after the run is the reference's `main_v18`. -/
theorem arr5 (c : Dev nD) : (dats m 0 c).arrAt 5 cfg0.N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨e0, e1, e2, e3, e4, e5⟩ := idx t
  idx_vars y
  pointwise [k0_pay1, k0_pay2, val_main_v0, val_main_v1, val_main_v2, val_main_v3, val_main_v4, val_main_v5,
    val_main_cst, val_main_v6, val_main_v7, val_main_cst_0, val_main_v8, val_main_v9, val_main_cst_1,
    val_main_v10, val_main_v11, val_main_v12, val_main_v13, val_main_v14, val_main_v15, val_main_v16,
    val_main_v17, val_main_v18]
  blk_point [iblk, V, e0, e1, e2, e3, e4, e5]

/-- The kernel and the reference end with equal results from equal arguments. -/
theorem algebraic : Cert.algebraic_OutIdeal_OutReferenceIdeal := by
  intro m ρ m' ρ' _ hagree
  refine ⟨fun c => val_main_v4 (F := Ideal) (m ((c.tc : Thread nD τ).loc main_arg0)) (m ((c.tc : Thread nD τ).loc main_arg1)) (m ((c.tc : Thread nD τ).loc main_arg2)), fun c => val_main_v18 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · exact (θ_run Cert.OutIdeal.defs _ _).mono (fun r h c => ⟨(h c).1.trans (arr4 m c), (h c).2.1.trans (arr5 m c), (h c).2.2⟩)
      (Cert.OutIdeal.Value.run_blocks m ρ)
  · refine (θ_run Cert.OutReferenceIdeal.defs _ _).mono (fun _ h c => ?_) (Cert.OutReferenceIdeal.Value.run (F := Ideal) m' ρ')
    obtain ⟨h0, h1, h2, h3⟩ := hagree c
    exact ⟨(h c).1.trans ((val_main_v4_eq _ _ _).trans (by rw [h0, h1, h2])), (h c).2.1.trans ((val_main_v18_eq _ _ _ _).trans (by rw [h0, h1, h2, h3])), (h c).2.2⟩

end Cert.OutProof

end
-- ==== Proof.Glu.lean ====
/- The gated unit with its output projection and residual: both arrays the kernel leaves are the reference's. -/
module

public import proofs.«01_k».proof.Defs
public import proofs.«01_k».proof.Proof.Gen.GluIdeal.Value
public import proofs.«01_k».proof.Proof.Gen.GluReferenceIdeal.Read
public import Idealize.ShloMosaic.Lib.Pipeline.ValueKit
public import Idealize.ShloMosaic.Lib.Pointwise

@[expose] public section

set_option maxRecDepth 16384

noncomputable section

namespace Cert.GluProof

open Cert.GluIdeal Cert.GluIdeal.Gen Idealize.ShloMosaic Idealize.ShloMosaic.TcCoe Idealize.SL.Sem
open Cert.GluReferenceIdeal.Read

variable (m : (ℓ : Loc nD τ sig) → Buf (Elt Ideal) ℓ) (ρ : Dev nD → PrngReg)

/-- The block of each window at each grid point. -/
theorem idx : ∀ t : Fin cfg0.N, win0_0.index t = ![t.val, 0] ∧ win0_1.index t = ![t.val, 0] ∧ win0_2.index t = ![t.val, 0] ∧ win0_3.index t = ![t.val, 3] ∧ win0_4.index t = ![0, 0] ∧ win0_5.index t = ![0, 0, 0] ∧ win0_6.index t = ![0, 0, 0] ∧ win0_7.index t = ![t.val, 0] ∧ win0_8.index t = ![0, 0] ∧ win0_9.index t = ![t.val, 0] ∧ win0_10.index t = ![t.val, 0] := by
  decide +kernel

/-- Output 9 after the run is the reference's `main_v35`. -/
theorem arr9 (c : Dev nD) : (dats m 0 c).arrAt 9 cfg0.N
    = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  frame_out
  obtain ⟨e0, e1, e2, e3, e4, e5, e6, e7, e8, e9, e10⟩ := idx t
  idx_vars y
  unfold_payloads
  pointwise [k0_pay1, k0_pay2, k0_pay3, k0_pay4, val_main_v0, val_main_v1, val_main_v2, val_main_v3, val_main_v4,
    val_main_v5, val_main_v6, val_main_v7, val_main_cst, val_main_v8, val_main_v9, val_main_v10,
    val_main_cst_0, val_main_v11, val_main_v12, val_main_v13, val_main_cst_1, val_main_v14,
    val_main_v15, val_main_cst_2, val_main_v16, val_main_v17, val_main_v18, val_main_v19, val_main_v20,
    val_main_v21, val_main_v22, val_main_v23, val_main_v24, val_main_cst_3, val_main_v25, val_main_v26,
    val_main_cst_4, val_main_v27, val_main_v28, val_main_v29, val_main_v30, val_main_v31, val_main_v32,
    val_main_v33, val_main_v34, val_main_v35, val_main_v36, val_main_cst_5, val_main_v37, val_main_v38,
    val_main_cst_6, val_main_v39, val_main_v40, val_main_cst_7, val_main_v41, val_main_v42,
    val_main_v43, val_main_v44, val_main_v45, val_main_v46, val_main_v47, val_main_v48, val_main_v49]
  simp only [Ideal.logistic, add_assoc, mul_assoc]
  blk_point [iblk, V, e0, e1, e2, e3, e4, e5, e6, e7, e8, e9, e10]

/-- Output 10 after the run is the reference's `main_v49`. -/
theorem arr10 (c : Dev nD) : (dats m 0 c).arrAt 10 cfg0.N
    = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10]
  frame_out
  obtain ⟨e0, e1, e2, e3, e4, e5, e6, e7, e8, e9, e10⟩ := idx t
  idx_vars y
  unfold_payloads
  pointwise [k0_pay1, k0_pay2, k0_pay3, k0_pay4, val_main_v0, val_main_v1, val_main_v2, val_main_v3, val_main_v4,
    val_main_v5, val_main_v6, val_main_v7, val_main_cst, val_main_v8, val_main_v9, val_main_v10,
    val_main_cst_0, val_main_v11, val_main_v12, val_main_v13, val_main_cst_1, val_main_v14,
    val_main_v15, val_main_cst_2, val_main_v16, val_main_v17, val_main_v18, val_main_v19, val_main_v20,
    val_main_v21, val_main_v22, val_main_v23, val_main_v24, val_main_cst_3, val_main_v25, val_main_v26,
    val_main_cst_4, val_main_v27, val_main_v28, val_main_v29, val_main_v30, val_main_v31, val_main_v32,
    val_main_v33, val_main_v34, val_main_v35, val_main_v36, val_main_cst_5, val_main_v37, val_main_v38,
    val_main_cst_6, val_main_v39, val_main_v40, val_main_cst_7, val_main_v41, val_main_v42,
    val_main_v43, val_main_v44, val_main_v45, val_main_v46, val_main_v47, val_main_v48, val_main_v49]
  simp only [Ideal.logistic, add_assoc, mul_assoc]
  blk_point [iblk, V, e0, e1, e2, e3, e4, e5, e6, e7, e8, e9, e10]

/-- The kernel and the reference end with equal results from equal arguments. -/
theorem algebraic : Cert.algebraic_GluIdeal_GluReferenceIdeal := by
  intro m ρ m' ρ' _ hagree
  refine ⟨fun c => val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)), fun c => val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)), ?_, ?_⟩
  · exact (θ_run Cert.GluIdeal.defs _ _).mono (fun r h c => ⟨(h c).1.trans (arr9 m c), (h c).2.1.trans (arr10 m c), (h c).2.2⟩)
      (Cert.GluIdeal.Value.run_blocks m ρ)
  · refine (θ_run Cert.GluReferenceIdeal.defs _ _).mono (fun _ h c => ?_) (Cert.GluReferenceIdeal.Value.run (F := Ideal) m' ρ')
    obtain ⟨h0, h1, h2, h3, h4, h5, h6, h7, h8⟩ := hagree c
    exact ⟨(h c).1.trans ((val_main_v35_eq m' c).trans (by rw [h0, h1, h2, h3, h4, h5, h6, h7])), (h c).2.1.trans ((val_main_v49_eq m' c).trans (by rw [h0, h1, h2, h3, h4, h5, h6, h7, h8])), (h c).2.2⟩

end Cert.GluProof

end
-- ==== Proof.Final.lean ====
/- The final RMS norm: the array the kernel leaves is the reference's, index by index. -/
module

public import proofs.«01_k».proof.Defs
public import proofs.«01_k».proof.Proof.Gen.FinalIdeal.Value
public import proofs.«01_k».proof.Proof.Gen.FinalReferenceIdeal.Read
public import Idealize.ShloMosaic.Lib.Pipeline.ValueKit
public import Idealize.ShloMosaic.Lib.Pointwise

@[expose] public section

set_option maxRecDepth 16384

noncomputable section

namespace Cert.FinalProof

open Cert.FinalIdeal Cert.FinalIdeal.Gen Idealize.ShloMosaic Idealize.ShloMosaic.TcCoe Idealize.SL.Sem
open Cert.FinalReferenceIdeal.Read

variable (m : (ℓ : Loc nD τ sig) → Buf (Elt Ideal) ℓ) (ρ : Dev nD → PrngReg)

/-- The block of each window at each grid point. -/
theorem idx : ∀ t : Fin cfg0.N, win0_0.index t = ![t.val, 0] ∧ win0_1.index t = ![0, 0] ∧ win0_2.index t = ![t.val, 0] := by
  decide +kernel

/-- Output 2 after the run is the reference's `main_v12`. -/
theorem arr2 (c : Dev nD) : (dats m 0 c).arrAt 2 cfg0.N
    = val_main_v12 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨e0, e1, e2⟩ := idx t
  idx_vars y
  pointwise [k0_pay1, val_main_v0, val_main_cst, val_main_v1, val_main_v2, val_main_cst_0, val_main_v3,
    val_main_v4, val_main_cst_1, val_main_v5, val_main_v6, val_main_v7, val_main_v8, val_main_v9,
    val_main_v10, val_main_v11, val_main_v12]
  blk_point [iblk, V, e0, e1, e2]

/-- The kernel and the reference end with equal results from equal arguments. -/
theorem algebraic : Cert.algebraic_FinalIdeal_FinalReferenceIdeal := by
  intro m ρ m' ρ' _ hagree
  refine ⟨fun c => val_main_v12 (F := Ideal) (m ((c.tc : Thread nD τ).loc main_arg0)) (m ((c.tc : Thread nD τ).loc main_arg1)), ?_, ?_⟩
  · exact (θ_run Cert.FinalIdeal.defs _ _).mono (fun r h c => ⟨(h c).1.trans (arr2 m c), (h c).2⟩)
      (Cert.FinalIdeal.Value.run_blocks m ρ)
  · refine (θ_run Cert.FinalReferenceIdeal.defs _ _).mono (fun _ h c => ?_) (Cert.FinalReferenceIdeal.Value.run (F := Ideal) m' ρ')
    obtain ⟨h0, h1⟩ := hagree c
    exact ⟨(h c).1.trans ((val_main_v12_eq _ _).trans (by rw [h0, h1])), (h c).2⟩

end Cert.FinalProof

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.Natten
public import proofs.«01_k».proof.Proof.Gen.Mlp.Frame
public import proofs.«01_k».proof.Proof.Gen.MlpIdeal.Frame
public import proofs.«01_k».proof.Proof.MlpFrame
public import proofs.«01_k».proof.Proof.MlpIdealFrame
public import proofs.«01_k».proof.Proof.Gen.MlpReferenceIdeal.Read
public import proofs.«01_k».proof.Proof.Mlp
public import proofs.«01_k».proof.Proof.Gen.Qkv.Frame
public import proofs.«01_k».proof.Proof.Gen.QkvIdeal.Value
public import proofs.«01_k».proof.Proof.Gen.QkvReferenceIdeal.Read
public import proofs.«01_k».proof.Proof.Qkv
public import proofs.«01_k».proof.Proof.Gen.Proj.Frame
public import proofs.«01_k».proof.Proof.Gen.ProjIdeal.Value
public import proofs.«01_k».proof.Proof.Gen.ProjReferenceIdeal.Read
public import proofs.«01_k».proof.Proof.Proj
public import proofs.«01_k».proof.Proof.Gen.Out.Frame
public import proofs.«01_k».proof.Proof.Gen.OutIdeal.Value
public import proofs.«01_k».proof.Proof.Gen.OutReferenceIdeal.Read
public import proofs.«01_k».proof.Proof.Out
public import proofs.«01_k».proof.Proof.Gen.Glu.Frame
public import proofs.«01_k».proof.Proof.Gen.GluIdeal.Value
public import proofs.«01_k».proof.Proof.Gen.GluReferenceIdeal.Read
public import proofs.«01_k».proof.Proof.Glu
public import proofs.«01_k».proof.Proof.Gen.Final.Frame
public import proofs.«01_k».proof.Proof.Gen.FinalIdeal.Value
public import proofs.«01_k».proof.Proof.Gen.FinalReferenceIdeal.Read
public import proofs.«01_k».proof.Proof.Final
public import proofs.«01_k».proof.Proof.Gen.Pre_finite_scores
public import Idealize.ShloMosaic.Lib.Quiescent
public import Idealize.ShloMosaic.Adequacy
public import Idealize.ShloMosaic.Init

@[expose] public section

noncomputable section

namespace Cert.Proof

open Idealize.ShloMosaic Idealize.SL.Sem

theorem frame_ReferenceIdeal : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem frame_MlpReferenceIdeal : Cert.quiescent_MlpReferenceIdeal := fun m ρ _ =>
  (θ_run Cert.MlpReferenceIdeal.defs _ _).mono (fun r h => ⟨fun c => (h c).2,
      Idealize.ShloMosaic.sem_eq_zero_of_no_sems (by decide) r.2⟩)
    (Cert.MlpReferenceIdeal.Value.run (F := Ideal) m ρ)

theorem frame_QkvReferenceIdeal : Cert.quiescent_QkvReferenceIdeal := fun m ρ _ =>
  (θ_run Cert.QkvReferenceIdeal.defs _ _).mono (fun r h => ⟨fun c => (h c).2,
      Idealize.ShloMosaic.sem_eq_zero_of_no_sems (by decide) r.2⟩)
    (Cert.QkvReferenceIdeal.Value.run (F := Ideal) m ρ)

theorem frame_ProjReferenceIdeal : Cert.quiescent_ProjReferenceIdeal := fun m ρ _ =>
  (θ_run Cert.ProjReferenceIdeal.defs _ _).mono (fun r h => ⟨fun c => (h c).2,
      Idealize.ShloMosaic.sem_eq_zero_of_no_sems (by decide) r.2⟩)
    (Cert.ProjReferenceIdeal.Value.run (F := Ideal) m ρ)

theorem frame_OutReferenceIdeal : Cert.quiescent_OutReferenceIdeal := fun m ρ _ =>
  (θ_run Cert.OutReferenceIdeal.defs _ _).mono (fun r h => ⟨fun c => (h c).2.2,
      Idealize.ShloMosaic.sem_eq_zero_of_no_sems (by decide) r.2⟩)
    (Cert.OutReferenceIdeal.Value.run (F := Ideal) m ρ)

theorem frame_GluReferenceIdeal : Cert.quiescent_GluReferenceIdeal := fun m ρ _ =>
  (θ_run Cert.GluReferenceIdeal.defs _ _).mono (fun r h => ⟨fun c => (h c).2.2,
      Idealize.ShloMosaic.sem_eq_zero_of_no_sems (by decide) r.2⟩)
    (Cert.GluReferenceIdeal.Value.run (F := Ideal) m ρ)

theorem frame_FinalReferenceIdeal : Cert.quiescent_FinalReferenceIdeal := fun m ρ _ =>
  (θ_run Cert.FinalReferenceIdeal.defs _ _).mono (fun r h => ⟨fun c => (h c).2,
      Idealize.ShloMosaic.sem_eq_zero_of_no_sems (by decide) r.2⟩)
    (Cert.FinalReferenceIdeal.Value.run (F := Ideal) m ρ)

theorem claim : Cert.Claim :=
  ⟨Cert.Kernel.Gen.facts,
    Cert.KernelIdeal.Gen.facts,
    Cert.Mlp.Gen.facts,
    Cert.MlpIdeal.Gen.facts,
    Cert.Qkv.Gen.facts,
    Cert.QkvIdeal.Gen.facts,
    Cert.Proj.Gen.facts,
    Cert.ProjIdeal.Gen.facts,
    Cert.Out.Gen.facts,
    Cert.OutIdeal.Gen.facts,
    Cert.Glu.Gen.facts,
    Cert.GluIdeal.Gen.facts,
    Cert.Final.Gen.facts,
    Cert.FinalIdeal.Gen.facts,
    Cert.ReferenceIdeal.Gen.facts,
    Cert.MlpReferenceIdeal.Gen.facts,
    Cert.QkvReferenceIdeal.Gen.facts,
    Cert.ProjReferenceIdeal.Gen.facts,
    Cert.OutReferenceIdeal.Gen.facts,
    Cert.GluReferenceIdeal.Gen.facts,
    Cert.FinalReferenceIdeal.Gen.facts,
    Cert.Pre_finite_scores.Gen.facts,
    fun m ρ _ => Cert.Kernel.Gen.frame m ρ,
    fun m ρ _ => Cert.KernelIdeal.Gen.frame m ρ,
    fun m ρ _ => Cert.KernelIdeal.Gen.frame m ρ,
    fun m ρ _ => Cert.Mlp.Gen.frame m ρ,
    fun m ρ _ => Cert.MlpIdeal.Gen.frame m ρ,
    fun m ρ _ => Cert.Qkv.Gen.frame m ρ,
    fun m ρ _ => Cert.QkvIdeal.Gen.frame m ρ,
    fun m ρ _ => Cert.Proj.Gen.frame m ρ,
    fun m ρ _ => Cert.ProjIdeal.Gen.frame m ρ,
    fun m ρ _ => Cert.Out.Gen.frame m ρ,
    fun m ρ _ => Cert.OutIdeal.Gen.frame m ρ,
    fun m ρ _ => Cert.Glu.Gen.frame m ρ,
    fun m ρ _ => Cert.GluIdeal.Gen.frame m ρ,
    fun m ρ _ => Cert.Final.Gen.frame m ρ,
    fun m ρ _ => Cert.FinalIdeal.Gen.frame m ρ,
    frame_ReferenceIdeal,
    fun m ρ _ => frame_ReferenceIdeal m ρ trivial,
    frame_MlpReferenceIdeal,
    frame_QkvReferenceIdeal,
    frame_ProjReferenceIdeal,
    frame_OutReferenceIdeal,
    frame_GluReferenceIdeal,
    frame_FinalReferenceIdeal,
    IdealRules.named_const.statement Cert.KernelIdeal.κ "log2e" .f32 0x3FB8AA3B#32 (((Real.log 2)⁻¹ : ℝ) : EReal) rfl,
    trivial,
    IdealRules.named_const.statement Cert.QkvIdeal.κ "attn" .f32 0x3E0293EE#32 (((Real.log 2)⁻¹ * (Real.sqrt 128)⁻¹ : ℝ) : EReal) rfl,
    trivial,
    trivial,
    trivial,
    trivial,
    Cert.KernelProof.algebraic,
    Cert.MlpProof.algebraic,
    Cert.QkvProof.algebraic,
    Cert.ProjProof.algebraic,
    Cert.OutProof.algebraic,
    Cert.GluProof.algebraic,
    Cert.FinalProof.algebraic⟩

end Cert.Proof

end
